-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 4] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![1, 1024, 8192]⟩ ⟨3, ![1, 2048, 8192]⟩ (Layout.meshBlock [2, 2, 4] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S1x1024x8192 : Shape := ⟨3, ![1, 1024, 8192]⟩
abbrev S4096x512 : Shape := ⟨2, ![4096, 512]⟩
abbrev S1x1024x512 : Shape := ⟨3, ![1, 1024, 512]⟩
abbrev S2x1024x512 : Shape := ⟨3, ![2, 1024, 512]⟩
abbrev S2 : Shape := ⟨1, ![2]⟩
abbrev S_ : Shape := ⟨0, ![]⟩
abbrev S1 : Shape := ⟨1, ![1]⟩
abbrev S1024x512 : Shape := ⟨2, ![1024, 512]⟩
abbrev S1024x4096 : Shape := ⟨2, ![1024, 4096]⟩

abbrev nBuf : Space → Nat
  | .hbm => 4
  | .vmem => 9
  | .smem => 0
  | _ => 0

abbrev bufTy : (tb : Table) → Fin (tcTables nBuf tb) → BufTy
  | .hbm, ⟨0, _⟩ => ⟨S1x2048x32x128, .bf16⟩
  | .hbm, ⟨1, _⟩ => ⟨S4096x8192, .bf16⟩
  | .hbm, ⟨2, _⟩ => ⟨S2048x4096, .bf16⟩
  | .hbm, ⟨3, _⟩ => ⟨S1x1024x8192, .f32⟩
  | .local _ .vmem, ⟨0, _⟩ => ⟨S2048x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .f32⟩
  | .local _ .vmem, ⟨4, _⟩ => ⟨S1x1024x512, .f32⟩
  | .local _ .vmem, ⟨5, _⟩ => ⟨S2x1024x512, .bf16⟩
  | .local _ .vmem, ⟨6, _⟩ => ⟨S2x1024x512, .bf16⟩
  | .local _ .vmem, ⟨7, _⟩ => ⟨S2x1024x512, .f32⟩
  | .local _ .vmem, ⟨8, _⟩ => ⟨S4096x512, .bf16⟩
  | _, _ => ⟨S1x2048x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => true
  | ⟨1, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 2 9 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier0 : Sem sig := 1

abbrev nD : Nat := 16
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_6 : BitVec 32 := 0#32
  let v15 : BitVec 1 := Scalar.cmpi .ne v14 c0_i32_6
  v15

def k0_dev1 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v26 : BitVec 32 := Scalar.muli v2 c8_i32_13
  let v27 : BitVec 32 := Scalar.addi c0_i32_14 v26
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_15 : BitVec 32 := 4#32
  let v28 : BitVec 32 := Scalar.muli v9 c4_i32_15
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v30 : BitVec 32 := Scalar.muli v8 c1_i32_16
  let v31 : BitVec 32 := Scalar.addi v29 v30
  v31.toNat
def k0_cond2 (i : grid0.Coords) : BitVec 1 :=
  let arg0 : BitVec 32 := BitVec.ofNat 32 (i 0).val
  let c16_i32 : BitVec 32 := 16#32
  let v16 : BitVec 1 := Scalar.cmpi .slt arg0 c16_i32
  let v17 : BitVec 32 := Scalar.extui v16
  let c0_i32_7 : BitVec 32 := 0#32
  let v18 : BitVec 1 := Scalar.cmpi .ne v17 c0_i32_7
  v18

def k0_cond3 (i : grid0.Coords) : BitVec 1 :=
  let arg0 : BitVec 32 := BitVec.ofNat 32 (i 0).val
  let c2_i32_12 : BitVec 32 := 2#32
  let v25 : BitVec 1 := Scalar.cmpi .sge arg0 c2_i32_12
  let v26 : BitVec 32 := Scalar.extui v25
  let c0_i32_13 : BitVec 32 := 0#32
  let v27 : BitVec 1 := Scalar.cmpi .ne v26 c0_i32_13
  v27

def k0_off1 (i : grid0.Coords) : Fin 1 → Nat :=
  let arg0 : BitVec 32 := BitVec.ofNat 32 (i 0).val
  let c2_i32_3 : BitVec 32 := 2#32
  let v10 : BitVec 32 := Scalar.remsi arg0 c2_i32_3
  ![v10.toNat]
def k0_off2 (i : grid0.Coords) : Fin 3 → Nat :=
  let arg0 : BitVec 32 := BitVec.ofNat 32 (i 0).val
  let c2_i32_3 : BitVec 32 := 2#32
  let v10 : BitVec 32 := Scalar.remsi arg0 c2_i32_3
  let c0_i32_39 : BitVec 32 := 0#32
  let c0_i32_40 : BitVec 32 := 0#32
  ![v10.toNat, 0, 0]
def k0_off3 (d0 : Dev nD) : Fin 2 → Nat :=
  let c1_i32_17 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_17 v5
  let c1024_i32 : BitVec 32 := 1024#32
  let v34 : BitVec 32 := Scalar.muli v33 c1024_i32
  let v35 : Index := Scalar.indexCast v34
  let c0_18 : Index := 0#32
  ![v35.toNat, 0]
def k0_off4 (i : grid0.Coords) : Fin 3 → Nat :=
  let arg0 : BitVec 32 := BitVec.ofNat 32 (i 0).val
  let c2_i32_3 : BitVec 32 := 2#32
  let v10 : BitVec 32 := Scalar.remsi arg0 c2_i32_3
  let v41 : Index := Scalar.indexCast v10
  let c0_21 : Index := 0#32
  let c0_22 : Index := 0#32
  ![v41.toNat, 0, 0]
def k0_off5 (i : grid0.Coords) : Fin 1 → Nat :=
  let arg0 : BitVec 32 := BitVec.ofNat 32 (i 0).val
  let c2_i32_3 : BitVec 32 := 2#32
  let v10 : BitVec 32 := Scalar.remsi arg0 c2_i32_3
  ![v10.toNat]
def k0_off6 (i : grid0.Coords) : Fin 3 → Nat :=
  let arg0 : BitVec 32 := BitVec.ofNat 32 (i 0).val
  let c2_i32_3 : BitVec 32 := 2#32
  let v10 : BitVec 32 := Scalar.remsi arg0 c2_i32_3
  let c0_i32_27 : BitVec 32 := 0#32
  let c0_i32_28 : BitVec 32 := 0#32
  ![v10.toNat, 0, 0]
def k0_dev2 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v45 : BitVec 32 := Scalar.muli v2 c8_i32_23
  let v46 : BitVec 32 := Scalar.addi c0_i32_24 v45
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_25 : BitVec 32 := 4#32
  let v47 : BitVec 32 := Scalar.muli v9 c4_i32_25
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v49 : BitVec 32 := Scalar.muli v8 c1_i32_26
  let v50 : BitVec 32 := Scalar.addi v48 v49
  v50.toNat
def k0_off7 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_31 : BitVec 32 := 1024#32
  let v59 : BitVec 32 := Scalar.muli v5 c1024_i32_31
  let v60 : Index := Scalar.indexCast v59
  let c0_32 : Index := 0#32
  ![v60.toNat, 0]
def k0_cond4 (i : grid0.Coords) : BitVec 1 :=
  let arg0 : BitVec 32 := BitVec.ofNat 32 (i 0).val
  let c1_i32_8 : BitVec 32 := 1#32
  let v19 : BitVec 1 := Scalar.cmpi .sge arg0 c1_i32_8
  let v20 : BitVec 32 := Scalar.extui v19
  let c0_i32_9 : BitVec 32 := 0#32
  let v21 : BitVec 1 := Scalar.cmpi .ne v20 c0_i32_9
  v21

def k0_off8 (i : grid0.Coords) : Fin 1 → Nat :=
  let arg0 : BitVec 32 := BitVec.ofNat 32 (i 0).val
  let c1_i32_4 : BitVec 32 := 1#32
  let v11 : BitVec 32 := Scalar.addi arg0 c1_i32_4
  let c2_i32_5 : BitVec 32 := 2#32
  let v12 : BitVec 32 := Scalar.remsi v11 c2_i32_5
  ![v12.toNat]
def k0_off9 (i : grid0.Coords) : Fin 3 → Nat :=
  let arg0 : BitVec 32 := BitVec.ofNat 32 (i 0).val
  let c1_i32_4 : BitVec 32 := 1#32
  let v11 : BitVec 32 := Scalar.addi arg0 c1_i32_4
  let c2_i32_5 : BitVec 32 := 2#32
  let v12 : BitVec 32 := Scalar.remsi v11 c2_i32_5
  let c0_i32_16 : BitVec 32 := 0#32
  let c0_i32_17 : BitVec 32 := 0#32
  ![v12.toNat, 0, 0]
def k0_off10 (i : grid0.Coords) : Fin 3 → Nat :=
  let arg0 : BitVec 32 := BitVec.ofNat 32 (i 0).val
  let c1_i32_4 : BitVec 32 := 1#32
  let v11 : BitVec 32 := Scalar.addi arg0 c1_i32_4
  let c2_i32_5 : BitVec 32 := 2#32
  let v12 : BitVec 32 := Scalar.remsi v11 c2_i32_5
  let v37 : Index := Scalar.indexCast v12
  let c0 : Index := 0#32
  let c0_20 : Index := 0#32
  ![v37.toNat, 0, 0]
def k0_cond5 (i : grid0.Coords) : BitVec 1 :=
  let arg0 : BitVec 32 := BitVec.ofNat 32 (i 0).val
  let c14_i32 : BitVec 32 := 14#32
  let v48 : BitVec 1 := Scalar.cmpi .sle arg0 c14_i32
  let v49 : BitVec 32 := Scalar.extui v48
  let c0_i32_26 : BitVec 32 := 0#32
  let v50 : BitVec 1 := Scalar.cmpi .ne v49 c0_i32_26
  v50

def k0_dev3 (d0 : Dev nD) : Nat :=
  let c0_i32_29 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_28 : BitVec 32 := 8#32
  let v51 : BitVec 32 := Scalar.muli v2 c8_i32_28
  let v52 : BitVec 32 := Scalar.addi c0_i32_29 v51
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_30 : BitVec 32 := 4#32
  let v53 : BitVec 32 := Scalar.muli v9 c4_i32_30
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v55 : BitVec 32 := Scalar.muli v8 c1_i32_31
  let v56 : BitVec 32 := Scalar.addi v54 v55
  v56.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x64x128, .bf16⟩
  | .hbm, ⟨1, _⟩ => ⟨S8192x8192, .bf16⟩
  | .hbm, ⟨2, _⟩ => ⟨S1x2048x8192, .bf16⟩
  | .hbm, ⟨3, _⟩ => ⟨S1x2048x8192, .f32⟩
  | .hbm, ⟨4, _⟩ => ⟨S8192x8192, .f32⟩
  | .hbm, ⟨5, _⟩ => ⟨S1x2048x8192, .f32⟩
  | .hbm, ⟨6, _⟩ => ⟨S1x2048x8192, .bf16⟩
  | .hbm, ⟨7, _⟩ => ⟨S1x2048x8192, .f32⟩
  | _, _ => ⟨S1x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Proto.lean ====
/- The protocol of the exchange: who talks to whom, the slots and the semaphores, what each semaphore's
   units stand for, and the order in which they are waited for. -/
module

public import proofs.«01_k».proof.Proof.Gen.KernelIdeal.Frame
public import proofs.«01_k».proof.Proof.Gen.KernelIdeal.Skeleton
public import Idealize.ShloMosaic.Lib.Rounds
public import Idealize.ShloMosaic.Lib.Release
public import Idealize.ShloMosaic.Lib.Memref
public import Idealize.ShloMosaic.Lib.Tactic
public import Idealize.ShloMosaic.PureOps

@[expose] public section

set_option maxRecDepth 16384

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

/-! ## Devices -/

/-- The device this one exchanges with: the other one along the mesh axis y. -/
def pr (c : Dev nD) : Dev nD := ⟨(8 * (c.val / 8) + c.val % 4 + 4) - 4 * ((c.val / 4) % 2), by have h : c.val < 16 := c.isLt; show _ < 16; omega⟩
/-- Exchanging is mutual. -/
theorem pr_pr (c : Dev nD) : pr (pr c) = c := by revert c; decide
/-- The exchange as a permutation of the devices. -/
def swap : Dev nD ≃ Dev nD := ⟨pr, pr, pr_pr, pr_pr⟩

/-- The slot chunk `j` goes through. -/
def par (j : ℕ) : Fin 2 := ⟨j % 2, Nat.mod_lt _ (by decide)⟩

/-! ## Slots and semaphores -/

theorem slot_inb (s : Fin 2) : ∀ a, (![s.val, 0, 0] : Fin 3 → Nat) a + S1x1024x512.size a ≤ S2x1024x512.size a := by
  revert s; decide
theorem sem_inb (s : Fin 2) : ∀ a, (![s.val] : Fin 1 → Nat) a + S1.size a ≤ S2.size a := by revert s; decide

/-- Slot `s` of a two-slot buffer. -/
abbrev slotR (s : Fin 2) : Rect S2x1024x512 := Rect.unit (s := S2x1024x512) ![s.val, 0, 0] S1x1024x512.size (slot_inb s)
/-- The two-slot buffers: what is sent, what is received, the device's own products. -/
abbrev sndM (s : Fin 2) : Memref sig .tc .vmem S1x1024x512 .bf16 := (Memref.whole cc0_scratch0).slice (slotR s) (fun _ => rfl)
abbrev rcvM (s : Fin 2) : Memref sig .tc .vmem S1x1024x512 .bf16 := (Memref.whole cc0_scratch1).slice (slotR s) (fun _ => rfl)
abbrev mineM (s : Fin 2) : Memref sig .tc .vmem S1x1024x512 .f32 := (Memref.whole cc0_scratch2).slice (slotR s) (fun _ => rfl)
abbrev sndQ (s : Fin 2) : Memref sig .tc .vmem S1024x512 .bf16 := (sndM s).squeeze S1024x512 squeezes_S1x1024x512_S1024x512
abbrev rcvQ (s : Fin 2) : Memref sig .tc .vmem S1024x512 .bf16 := (rcvM s).squeeze S1024x512 squeezes_S1x1024x512_S1024x512

abbrev sndS (s : Fin 2) : DmaSem sig := ((cc0_scratch4.slice (Rect.unit (s := S2) ![s.val] S1.size (sem_inb s))).squeeze S_ squeezes_S1_S_).sem
abbrev rcvS (s : Fin 2) : DmaSem sig := ((cc0_scratch5.slice (Rect.unit (s := S2) ![s.val] S1.size (sem_inb s))).squeeze S_ squeezes_S1_S_).sem
abbrev barS : Sem sig := (SemArray.scalar (sig.barrier 0 rfl) : Sems sig S_).sem
abbrev crdS : Sem sig := cc0_scratch6.sem

abbrev barCell (c : Dev nD) : GSem nD τ sig := ((c : Thread nD τ), .reg barS)
abbrev crdCell (c : Dev nD) : GSem nD τ sig := ((c : Thread nD τ), .reg crdS)
abbrev sndCell (c : Dev nD) (s : Fin 2) : GSem nD τ sig := ((c : Thread nD τ), .dma (sndS s))
abbrev rcvCell (c : Dev nD) (s : Fin 2) : GSem nD τ sig := ((c : Thread nD τ), .dma (rcvS s))

/-- The units a copy of one chunk raises. -/
abbrev N : ℕ := (rcvQ 0).view.dmaCredit
theorem N_pos : 0 < N := View.dmaCredit_pos _ (by decide)
theorem credit_rcv (s : Fin 2) : (rcvQ s).view.dmaCredit = N := rfl
theorem credit_snd (s : Fin 2) : (sndQ s).view.dmaCredit = N := rfl

/-- What a semaphore is for. -/
inductive Role | bar | crd | snd (s : Fin 2) | rcv (s : Fin 2) | other
  deriving DecidableEq

/-- The role of each of a device's semaphores. -/
def role (x : SemLoc sig) : Role :=
  if x = .reg barS then .bar else if x = .reg crdS then .crd else if x = .dma (sndS 0) then .snd 0
  else if x = .dma (sndS 1) then .snd 1 else if x = .dma (rcvS 0) then .rcv 0 else if x = .dma (rcvS 1) then .rcv 1 else .other

theorem role_bar : role (.reg barS) = .bar := by decide
theorem role_crd : role (.reg crdS) = .crd := by decide
theorem role_snd (s : Fin 2) : role (.dma (sndS s)) = .snd s := by revert s; decide
theorem role_rcv (s : Fin 2) : role (.dma (rcvS s)) = .rcv s := by revert s; decide

/-! ## The algebra -/

abbrev K : Type := Dev nD × Fin 2
abbrev UX : Type := URounds (GSem nD τ sig) ℕ × USlots K
abbrev UU : Type := UR sig nD τ × UX

local notation "𝕄" => MT nD τ sig ℕ (Elt F) ℕ UU ℕ

abbrev EP : Emb (UR sig nD τ) (MT nD τ sig ℕ (Elt F) ℕ UU ℕ) := embL
abbrev EX : Emb UX (MT nD τ sig ℕ (Elt F) ℕ UU ℕ) := embR
abbrev ER : Emb (URounds (GSem nD τ sig) ℕ) (MT nD τ sig ℕ (Elt F) ℕ UU ℕ) := (Emb.inl : Emb (URounds (GSem nD τ sig) ℕ) UX).trans EX
abbrev ES : Emb (USlots K) (MT nD τ sig ℕ (Elt F) ℕ UU ℕ) := (Emb.inr : Emb (USlots K) UX).trans EX

variable (m : (ℓ : Loc nD τ sig) → Buf (Elt F) ℓ)

/-! ## Contents -/

/-- The grid point that handles chunk `j`. -/
def pt (j : ℕ) : Fin cfg0.N := ⟨min j 16, by rw [show cfg0.N = 17 from N_0]; omega⟩

/-- A device's activations, and column block `j` of its weights. -/
abbrev xB (c : Dev nD) : Vec F S2048x4096 .bf16 := iblk m c 0 (pt 0)
abbrev wB (c : Dev nD) (j : ℕ) : Vec F S4096x512 .bf16 := iblk m c 1 (pt j)

theorem rows_inb (b : Fin 2) : ∀ a, (![1024 * b.val, 0] : Fin 2 → Nat) a + S1024x4096.size a ≤ S2048x4096.size a := by
  revert b; decide
/-- Half `b` of the rows of the activations. -/
abbrev rowsR (b : Fin 2) : Rect S2048x4096 := Rect.unit (s := S2048x4096) ![1024 * b.val, 0] S1024x4096.size (rows_inb b)
/-- The half of the rows a device keeps, and the half its partner keeps. -/
def own (c : Dev nD) : Fin 2 := ⟨(c.val / 4) % 2, Nat.mod_lt _ (by decide)⟩
def other (c : Dev nD) : Fin 2 := ⟨1 - (c.val / 4) % 2, by omega⟩

/-- What a device sends of chunk `j`: its partner's rows times the column block. -/
def sendV (c : Dev nD) (j : ℕ) : Vec F S1x1024x512 .bf16 :=
  k0_pay4 (fun x => xB m c ((rowsR (other c)).emb x)) (k0_pay3 (wB m c j))
/-- What it keeps of chunk `j`: its own rows times the column block. -/
def mineV (c : Dev nD) (j : ℕ) : Vec F S1x1024x512 .f32 :=
  k0_pay1 (fun x => xB m c ((rowsR (own c)).emb x)) (k0_pay3 (wB m c j))
/-- What it writes out for chunk `j`: its own part and its partner's. -/
def outV (c : Dev nD) (j : ℕ) : Vec F S1x1024x512 .f32 := k0_pay2 (mineV m c j) (sendV m (pr c) j)

/-! ## The schedule -/

/-- A slot of the send and of the receive buffer at contents not chosen. -/
abbrev sndAny (c : Dev nD) (s : Fin 2) : sProp 𝕄 := Release.slot ((sndM s).view.loc (c : Thread nD τ)) (sndM s).view.set
abbrev rcvAny (c : Dev nD) (s : Fin 2) : sProp 𝕄 := Release.slot ((rcvM s).view.loc (c : Thread nD τ)) (rcvM s).view.set

/-- Chunk `j` may be written on device `c`: the slot has been given back often enough, and the round of
    the receive semaphore that chunk `j` raises has been reached. -/
def free (c : Dev nD) (j : ℕ) : sProp 𝕄 :=
  iprop(released ES (c, par j) (j / 2 + 1) ∗ reached ER (rcvCell c (par j)) (j / 2))
instance (c : Dev nD) (j : ℕ) : BI.Persistent (free (F := F) c j) := by unfold free; infer_instance
instance (c : Dev nD) (j : ℕ) : BI.Storable (upEmb : UEmb _ 𝕄) (free (F := F) c j) := by unfold free; infer_instance

/-- The chunks below `n` may be written on device `c`. -/
def frees (c : Dev nD) (n : ℕ) : sProp 𝕄 := bigSep (Finset.range n) (free (F := F) c)
instance (c : Dev nD) (n : ℕ) : BI.Persistent (frees (F := F) c n) := by unfold frees; infer_instance
instance (c : Dev nD) (n : ℕ) : BI.Storable (upEmb : UEmb _ 𝕄) (frees (F := F) c n) := by unfold frees; infer_instance

theorem frees_elim (c : Dev nD) {n j : ℕ} (h : j < n) : frees (F := F) c n ⊢ free c j :=
  bigSep_elim (Finset.mem_range.mpr h)
theorem frees_succ (c : Dev nD) (n : ℕ) : iprop(frees (F := F) c n ∗ free c n) ⊢ frees c (n + 1) := by
  unfold frees
  rw [Finset.range_add_one, BI.bigSep_insert Finset.notMem_range_self]
  exact sep_comm.1

def dutiesOf : Role → ℕ → Finset ℕ
  | .bar, r => if r = 0 then {0} else ∅
  | .crd, r => if r = 0 then Finset.range 14 else ∅
  | .snd _, r => if r < 8 then {0} else ∅
  | .rcv _, r => if r < 8 then {0} else ∅
  | .other, _ => ∅

def amountOf : Role → ℕ
  | .snd _ => N
  | .rcv _ => N
  | _ => 1

/-- What a semaphore's owner is handed with the units. -/
def payOf (c : Dev nD) : Role → ℕ → ℕ → sProp 𝕄
  | .bar, _, _ => iprop(frees (pr c) 2 ∗ reached ER (crdCell (pr c)) 0)
  | .crd, _, k => frees (pr c) (k + 3)
  | .snd s, _, _ => sndAny c s
  | .rcv s, r, _ => owns (c : Thread nD τ) (rcvM s) fullShare (sendV m (pr c) (2 * r + s.val))
  | .other, _, _ => iprop(emp)

theorem amountOf_pos (k : Role) : 0 < amountOf k := by
  cases k <;> first | exact Nat.one_pos | exact N_pos

/-- The barrier: one unit. The credits: fourteen, one per chunk whose slot is used again. The copies: eight
    rounds per slot, one copy each. -/
def Rd : Rounds.Schedule (GSem nD τ sig) ℕ 𝕄 where
  duties g r := if g.1.2 = .tc then dutiesOf (role g.2) r else ∅
  amount g _ _ := amountOf (role g.2)
  payload g r d := payOf m g.1.1 (role g.2) r d
  amount_pos g _ _ _ := amountOf_pos _

instance (g : GSem nD τ sig) (r d : ℕ) : BI.Storable (upEmb : UEmb _ 𝕄) ((Rd (F := F) m).payload g r d) := by
  show BI.Storable upEmb (payOf m g.1.1 (role g.2) r d)
  cases role g.2 <;> unfold payOf <;> infer_instance

section
variable (c : Dev nD) (s : Fin 2) (r d : ℕ)

theorem duties_tc (sm : SemLoc sig) : (Rd (F := F) m).duties ((c : Thread nD τ), sm) r = dutiesOf (role sm) r := by
  dsimp only [Rd]; exact if_pos rfl
theorem duties_bar : (Rd (F := F) m).duties (barCell c) 0 = {0} := by
  rw [duties_tc, role_bar]; rfl
theorem duties_crd : (Rd (F := F) m).duties (crdCell c) 0 = Finset.range 14 := by
  rw [duties_tc, role_crd]; rfl
theorem duties_snd (h : r < 8) : (Rd (F := F) m).duties (sndCell c s) r = {0} := by
  rw [duties_tc, role_snd]; exact if_pos h
theorem duties_rcv (h : r < 8) : (Rd (F := F) m).duties (rcvCell c s) r = {0} := by
  rw [duties_tc, role_rcv]; exact if_pos h

theorem later_bar (h : 1 ≤ r) : (Rd (F := F) m).duties (barCell c) r = ∅ := by
  rw [duties_tc, role_bar]; exact if_neg (by omega)
theorem later_crd (h : 1 ≤ r) : (Rd (F := F) m).duties (crdCell c) r = ∅ := by
  rw [duties_tc, role_crd]; exact if_neg (by omega)
theorem later_snd (h : 8 ≤ r) : (Rd (F := F) m).duties (sndCell c s) r = ∅ := by
  rw [duties_tc, role_snd]; exact if_neg (by omega)
theorem later_rcv (h : 8 ≤ r) : (Rd (F := F) m).duties (rcvCell c s) r = ∅ := by
  rw [duties_tc, role_rcv]; exact if_neg (by omega)

theorem amount_bar : (Rd (F := F) m).amount (barCell c) r d = 1 := by
  show amountOf (role (.reg barS)) = _; rw [role_bar]; rfl
theorem amount_crd : (Rd (F := F) m).amount (crdCell c) r d = 1 := by
  show amountOf (role (.reg crdS)) = _; rw [role_crd]; rfl
theorem amount_snd : (Rd (F := F) m).amount (sndCell c s) r d = N := by
  show amountOf (role (.dma (sndS s))) = _; rw [role_snd]; rfl
theorem amount_rcv : (Rd (F := F) m).amount (rcvCell c s) r d = N := by
  show amountOf (role (.dma (rcvS s))) = _; rw [role_rcv]; rfl

theorem expect_bar : (Rd (F := F) m).expect (barCell c) 0 = 1 := by
  unfold Schedule.expect Schedule.amountOf; rw [duties_bar, Finset.sum_singleton, amount_bar]
theorem expect_crd : (Rd (F := F) m).expect (crdCell c) 0 = 14 := by
  unfold Schedule.expect Schedule.amountOf
  rw [duties_crd, Finset.sum_congr rfl (fun d _ => amount_crd m c 0 d), Finset.sum_const, Finset.card_range]; rfl
theorem expect_snd (h : r < 8) : (Rd (F := F) m).expect (sndCell c s) r = N := by
  unfold Schedule.expect Schedule.amountOf; rw [duties_snd m c s r h, Finset.sum_singleton, amount_snd]
theorem expect_rcv (h : r < 8) : (Rd (F := F) m).expect (rcvCell c s) r = N := by
  unfold Schedule.expect Schedule.amountOf; rw [duties_rcv m c s r h, Finset.sum_singleton, amount_rcv]

theorem pay_bar : (Rd (F := F) m).payload (barCell c) r d = iprop(frees (pr c) 2 ∗ reached ER (crdCell (pr c)) 0) := by
  show payOf m c (role (.reg barS)) r d = _; rw [role_bar]; rfl
theorem pay_crd : (Rd (F := F) m).payload (crdCell c) r d = frees (pr c) (d + 3) := by
  show payOf m c (role (.reg crdS)) r d = _; rw [role_crd]; rfl
theorem pay_snd : (Rd (F := F) m).payload (sndCell c s) r d = sndAny c s := by
  show payOf m c (role (.dma (sndS s))) r d = _; rw [role_snd]; rfl
theorem pay_rcv : (Rd (F := F) m).payload (rcvCell c s) r d
    = owns (c : Thread nD τ) (rcvM s) fullShare (sendV m (pr c) (2 * r + s.val)) := by
  show payOf m c (role (.dma (rcvS s))) r d = _; rw [role_rcv]; rfl

theorem rest_bar : bigSep ((Rd (F := F) m).duties (barCell c) 0 \ ∅) (fun d => (Rd (F := F) m).payload (barCell c) 0 d)
    = iprop(frees (pr c) 2 ∗ reached ER (crdCell (pr c)) 0) := by
  rw [Finset.sdiff_empty, duties_bar, bigSep_singleton, pay_bar]
theorem rest_snd (h : r < 8) : bigSep ((Rd (F := F) m).duties (sndCell c s) r \ ∅) (fun d => (Rd (F := F) m).payload (sndCell c s) r d) = sndAny c s := by
  rw [Finset.sdiff_empty, duties_snd m c s r h, bigSep_singleton, pay_snd]
theorem rest_rcv (h : r < 8) : bigSep ((Rd (F := F) m).duties (rcvCell c s) r \ ∅) (fun d => (Rd (F := F) m).payload (rcvCell c s) r d)
    = owns (c : Thread nD τ) (rcvM s) fullShare (sendV m (pr c) (2 * r + s.val)) := by
  rw [Finset.sdiff_empty, duties_rcv m c s r h, bigSep_singleton, pay_rcv]

end

/-! ## Levels and what is owed -/

/-- The indices every core's credits and debts use. -/
def L (g : GSem nD τ sig) : Finset ℕ := if g.1.2 = .tc then Finset.range 16 else ∅
def levOf : Role → ℕ → ℕ
  | .bar, _ => 1
  | .crd, k => 2 * k + 3
  | .rcv _, j => 2 * j + 2
  | _, _ => 0
/-- The order of the waits: the barrier, then chunk by chunk the copy and the credit that follows it. -/
def lv (g : GSem nD τ sig) (k : ℕ) : ℕ := levOf (role g.2) k

theorem L_of_ne (g : GSem nD τ sig) (h : g.1.2 ≠ .tc) : L g = ∅ := if_neg h
theorem L_tc (c : Dev nD) (sm : SemLoc sig) : L ((c : Thread nD τ), sm) = Finset.range 16 := if_pos rfl

/-- The debts of the copies from chunk `a` on, and of the credits from `b` on. -/
def owedR (c : Dev nD) (a : ℕ) : CellTallies nD τ sig ℕ := ∑ j ∈ Finset.Ico a 16, tallyAt (rcvCell (pr c) (par j)) j N
def owedC (c : Dev nD) (b : ℕ) : CellTallies nD τ sig ℕ := ∑ k ∈ Finset.Ico b 14, tallyAt (crdCell (pr c)) k 1
def Ow (c : Dev nD) (a b : ℕ) : CellTallies nD τ sig ℕ := owedR c a + owedC c b

theorem Ico_head {a b : ℕ} (h : a < b) : Finset.Ico a b = insert a (Finset.Ico (a + 1) b) := by
  ext x; simp only [Finset.mem_insert, Finset.mem_Ico]; omega
theorem not_mem_Ico_succ (a b : ℕ) : a ∉ Finset.Ico (a + 1) b := by simp only [Finset.mem_Ico]; omega

theorem owedR_head (c : Dev nD) {a : ℕ} (h : a < 16) : owedR c a = owedR c (a + 1) + tallyAt (rcvCell (pr c) (par a)) a N := by
  unfold owedR; rw [Ico_head h, Finset.sum_insert (not_mem_Ico_succ _ _), add_comm]
theorem owedC_head (c : Dev nD) {b : ℕ} (h : b < 14) : owedC c b = owedC c (b + 1) + tallyAt (crdCell (pr c)) b 1 := by
  unfold owedC; rw [Ico_head h, Finset.sum_insert (not_mem_Ico_succ _ _), add_comm]
theorem owedR_nil (c : Dev nD) {a : ℕ} (h : 16 ≤ a) : owedR c a = 0 := by
  unfold owedR; rw [Finset.Ico_eq_empty_of_le h, Finset.sum_empty]
theorem owedC_nil (c : Dev nD) {b : ℕ} (h : 14 ≤ b) : owedC c b = 0 := by
  unfold owedC; rw [Finset.Ico_eq_empty_of_le h, Finset.sum_empty]

theorem Ow_send (c : Dev nD) {a b : ℕ} (h : a < 16) : Ow c a b = Ow c (a + 1) b + tallyAt (rcvCell (pr c) (par a)) a N := by
  unfold Ow; rw [owedR_head c h, add_right_comm]
theorem Ow_credit (c : Dev nD) {a b : ℕ} (h : b < 14) : Ow c a b = Ow c a (b + 1) + tallyAt (crdCell (pr c)) b 1 := by
  unfold Ow; rw [owedC_head c h, add_assoc]

/-- What is owed at a cell and index is owed there by one of the remaining chunks. -/
theorem Ow_pos (c : Dev nD) {a b : ℕ} {g : GSem nD τ sig} {i : ℕ} (h : 0 < Ow c a b g i) :
    (g = rcvCell (pr c) (par i) ∧ a ≤ i ∧ i < 16) ∨ (g = crdCell (pr c) ∧ b ≤ i ∧ i < 14) := by
  have h' : 0 < owedR c a g i + owedC c b g i := h
  rcases Nat.add_pos_iff_pos_or_pos.mp h' with h | h
  · left
    unfold owedR at h
    rw [Finset.sum_apply, Finsupp.finset_sum_apply] at h
    obtain ⟨j, hj, hp⟩ := Finset.exists_ne_zero_of_sum_ne_zero (Nat.pos_iff_ne_zero.mp h)
    rw [tallyAt_apply] at hp
    by_cases hc : g = rcvCell (pr c) (par j) ∧ i = j
    · obtain ⟨rfl, rfl⟩ := hc; exact ⟨rfl, Finset.mem_Ico.mp hj⟩
    · rw [if_neg hc] at hp; exact absurd rfl hp
  · right
    unfold owedC at h
    rw [Finset.sum_apply, Finsupp.finset_sum_apply] at h
    obtain ⟨j, hj, hp⟩ := Finset.exists_ne_zero_of_sum_ne_zero (Nat.pos_iff_ne_zero.mp h)
    rw [tallyAt_apply] at hp
    by_cases hc : g = crdCell (pr c) ∧ i = j
    · obtain ⟨rfl, rfl⟩ := hc; exact ⟨rfl, Finset.mem_Ico.mp hj⟩
    · rw [if_neg hc] at hp; exact absurd rfl hp

theorem lv_crd (c : Dev nD) (k : ℕ) : lv (crdCell c) k = 2 * k + 3 := by unfold lv; rw [role_crd]; rfl
theorem lv_rcv (c : Dev nD) (s : Fin 2) (j : ℕ) : lv (rcvCell c s) j = 2 * j + 2 := by unfold lv; rw [role_rcv]; rfl
theorem lv_snd (c : Dev nD) (s : Fin 2) (j : ℕ) : lv (sndCell c s) j = 0 := by unfold lv; rw [role_snd]; rfl
theorem lv_bar (c : Dev nD) (j : ℕ) : lv (barCell c) j = 1 := by unfold lv; rw [role_bar]; rfl

/-- A wait below all that is still owed is allowed. -/
theorem mayWait (c : Dev nD) (sm : SemLoc sig) {i a b : ℕ} (hi : i < 16) (ha : lv ((c : Thread nD τ), sm) i < 2 * a + 2)
    (hb : lv ((c : Thread nD τ), sm) i < 2 * b + 3) : (levAts L lv : sProp 𝕄) ⊢ MayWait (c : Thread nD τ) sm i (Ow c a b) :=
  MayOwe.of_cut (L := L) (lev := lv) (lv ((c : Thread nD τ), sm) i)
    (fun p hp => by rw [Finset.mem_singleton.mp hp, L_tc]; exact Finset.mem_range.mpr hi)
    (fun g u hg => by
      rcases Ow_pos c hg with ⟨rfl, -, h⟩ | ⟨rfl, -, h⟩ <;> rw [L_tc] <;> exact Finset.mem_range.mpr (by omega))
    (fun p hp => by rw [Finset.mem_singleton.mp hp])
    (fun g u hg => by
      rcases Ow_pos c hg with ⟨rfl, h, -⟩ | ⟨rfl, h, -⟩
      · rw [lv_rcv]; omega
      · rw [lv_crd]; omega)

end Cert.KernelIdeal.Pf

end
-- ==== Proof.Segs.lean ====
/- The kernel body at a grid point as four steps, each followed by a program `k`. -/
module

public import proofs.«01_k».proof.Proof.Proto

@[expose] public section

set_option maxRecDepth 16384

noncomputable section

namespace Cert.KernelIdeal.Pf

open Idealize.ShloMosaic Idealize.ShloMosaic.TcCoe
open Idealize.SL Idealize.SL.Sem
open Cert.KernelIdeal.Gen

variable {F : FTy → Type} [FloatOps F]

variable (F) in
/-- A kernel program. -/
abbrev KProg : Type 1 := Prog (TpuEff nD τ sig (Elt F) Λ₀ .tc) PUnit

abbrev B4 : Memref sig .tc .vmem S2x1024x512 .bf16 := Memref.whole cc0_scratch0
abbrev B5 : Memref sig .tc .vmem S2x1024x512 .bf16 := Memref.whole cc0_scratch1
abbrev B6 : Memref sig .tc .vmem S2x1024x512 .f32 := Memref.whole cc0_scratch2
abbrev B7 : Memref sig .tc .vmem S4096x512 .bf16 := Memref.whole cc0_scratch3
abbrev W4 : (B4).IsWhole := Memref.isWhole_whole _
abbrev W5 : (B5).IsWhole := Memref.isWhole_whole _
abbrev W7 : (B7).IsWhole := Memref.isWhole_whole _

/-- The whole of a weight block. -/
abbrev allW : Rect S4096x512 := Rect.unit (s := S4096x512) ![0, 0] S4096x512.size inb_S4096x512_S4096x512_0_0
/-- The whole of an output block. -/
abbrev allO : Rect S1x1024x512 := Rect.unit (s := S1x1024x512) ![0, 0, 0] S1x1024x512.size inb_S1x1024x512_S1x1024x512_0_0_0

/-- The barrier with the partner, at the first point. -/
def segA (i : grid0.Coords) (d : Dev nD) (k : KProg F) : KProg F :=
  if h : k0_cond1 i = 1#1 then do
    semSignalWord (⟨k0_dev1 d, k0_dev1_lt i d h⟩ : Dev nD) barS 1#32
    semWaitWord barS 1#32
    k
  else k

/-- Before a slot is used again: the copy out of it two chunks ago is done, and the partner has given back
    the slot it went to. -/
def segW (i : grid0.Coords) (h2 : k0_cond2 i = 1#1) (k : KProg F) : KProg F :=
  if h : k0_cond3 i = 1#1 then do
    Prog.lift (.waitDma2 ((cc0_scratch4.slice (Rect.unit (s := S2) (k0_off1 i) S1.size (k0_off1_inb i h2 h))).squeeze S_ squeezes_S1_S_).sem
      ((B5.slice (Rect.unit (s := S2x1024x512) (k0_off2 i) S1x1024x512.size (k0_off2_inb i h2 h)) (fun _ => rfl)).squeeze S1024x512 squeezes_S1x1024x512_S1024x512)
      ((B4.slice (Rect.unit (s := S2x1024x512) (k0_off2 i) S1x1024x512.size (k0_off2_inb i h2 h)) (fun _ => rfl)).squeeze S1024x512 squeezes_S1x1024x512_S1024x512)
      ((W5.wordExact_slice rfl _ (k0_off2_wordsbf16 i h2 h)).reshape _ _) ((W4.wordExact_slice rfl _ (k0_off2_wordsbf16 i h2 h)).reshape _ _))
    semWaitWord crdS 1#32
    k
  else k

/-- The partner's rows times the column block, sent to the partner. -/
def segS (t : Fin cfg0.N) (d : Dev nD) (h2 : k0_cond2 (grid0.coords t) = 1#1) (k : KProg F) : KProg F := do
  let a ← Prog.lift (.load (st0_1 t) allW.toLoadRect (View.loadsAt_vmem h_S4096x512))
  let _ ← Prog.lift (.load B7 allW.toLoadRect (View.loadsAt_vmem h_S4096x512))
  Prog.lift (.store B7 allW (k0_pay3 a) Finset.univ
    (View.stores_vmem h_S4096x512 (W7.storeExact_slice rfl _ packedbf16_S4096x512_S4096x512_0_0) (fun _ => rfl)) (.inl rfl))
  let b ← Prog.lift (.load (st0_0 t) (Rect.unit (s := S2048x4096) (k0_off3 d) S1024x4096.size (k0_off3_inb (grid0.coords t) d h2)).toLoadRect
    (View.loadsAt_vmem h_S1024x4096))
  let w ← Prog.lift (.load B7 allW.toLoadRect (View.loadsAt_vmem h_S4096x512))
  let _ ← Prog.lift (.load B4 (Rect.unit (s := S2x1024x512) (k0_off4 (grid0.coords t)) S1x1024x512.size (k0_off4_inb (grid0.coords t) h2)).toLoadRect
    (View.loadsAt_vmem h_S1x1024x512))
  Prog.lift (.store B4 (Rect.unit (s := S2x1024x512) (k0_off4 (grid0.coords t)) S1x1024x512.size (k0_off4_inb (grid0.coords t) h2)) (k0_pay4 b w) Finset.univ
    (View.stores_vmem h_S1x1024x512 (W4.storeExact_slice rfl _ (k0_off4_packedbf16 (grid0.coords t) h2)) (fun _ => rfl)) (.inl rfl))
  Prog.lift (.enqueueDma
    ((B4.slice (Rect.unit (s := S2x1024x512) (k0_off6 (grid0.coords t)) S1x1024x512.size (k0_off6_inb (grid0.coords t) h2)) (fun _ => rfl)).squeeze S1024x512 squeezes_S1x1024x512_S1024x512)
    (.remote (Dev.tc (⟨k0_dev2 d, k0_dev2_lt (grid0.coords t) d h2⟩ : Dev nD))
      ((B5.slice (Rect.unit (s := S2x1024x512) (k0_off6 (grid0.coords t)) S1x1024x512.size (k0_off6_inb (grid0.coords t) h2)) (fun _ => rfl)).squeeze S1024x512 squeezes_S1x1024x512_S1024x512)
      (.dma ((cc0_scratch4.slice (Rect.unit (s := S2) (k0_off5 (grid0.coords t)) S1.size (k0_off5_inb (grid0.coords t) h2))).squeeze S_ squeezes_S1_S_).sem))
    (.dma ((cc0_scratch5.slice (Rect.unit (s := S2) (k0_off5 (grid0.coords t)) S1.size (k0_off5_inb (grid0.coords t) h2))).squeeze S_ squeezes_S1_S_).sem)
    ((W4.wordExact_slice rfl _ (k0_off6_wordsbf16 (grid0.coords t) h2)).reshape _ _)
    ((W5.wordExact_slice rfl _ (k0_off6_wordsbf16 (grid0.coords t) h2)).reshape _ _) ⟨⟨rfl, Or.inl rfl⟩, trivial⟩)
  k

/-- The device's own rows times the column block, kept. -/
def segM (t : Fin cfg0.N) (d : Dev nD) (h2 : k0_cond2 (grid0.coords t) = 1#1) (k : KProg F) : KProg F := do
  let b ← Prog.lift (.load (st0_0 t) (Rect.unit (s := S2048x4096) (k0_off7 d) S1024x4096.size (k0_off7_inb (grid0.coords t) d h2)).toLoadRect
    (View.loadsAt_vmem h_S1024x4096))
  let w ← Prog.lift (.load B7 allW.toLoadRect (View.loadsAt_vmem h_S4096x512))
  let _ ← Prog.lift (.load B6 (Rect.unit (s := S2x1024x512) (k0_off4 (grid0.coords t)) S1x1024x512.size (k0_off4_inb (grid0.coords t) h2)).toLoadRect
    (View.loadsAt_vmem h_S1x1024x512))
  Prog.lift (.store B6 (Rect.unit (s := S2x1024x512) (k0_off4 (grid0.coords t)) S1x1024x512.size (k0_off4_inb (grid0.coords t) h2)) (k0_pay1 b w) Finset.univ
    (View.stores_vmem_bits_univ h_S1x1024x512 rfl) (.inl rfl))
  k

/-- A chunk computed: sent and kept. -/
def segB (t : Fin cfg0.N) (d : Dev nD) (k : KProg F) : KProg F :=
  if h : k0_cond2 (grid0.coords t) = 1#1 then do
    segW (grid0.coords t) h (segS t d h (.ret ⟨⟩))
    segM t d h k
  else k

/-- The credit for the slot just read, at the points that give one. -/
def segG (i : grid0.Coords) (d : Dev nD) (h4 : k0_cond4 i = 1#1) (k : KProg F) : KProg F :=
  if h : k0_cond5 i = 1#1 then do
    semSignalWord (⟨k0_dev3 d, k0_dev3_lt i d h4 h⟩ : Dev nD) crdS 1#32
    k
  else k

/-- The chunk before: received, added to the own part, written out. -/
def segC (t : Fin cfg0.N) (d : Dev nD) (k : KProg F) : KProg F :=
  if h : k0_cond4 (grid0.coords t) = 1#1 then do
    Prog.lift (.waitDma2 ((cc0_scratch5.slice (Rect.unit (s := S2) (k0_off8 (grid0.coords t)) S1.size (k0_off8_inb (grid0.coords t) h))).squeeze S_ squeezes_S1_S_).sem
      ((B4.slice (Rect.unit (s := S2x1024x512) (k0_off9 (grid0.coords t)) S1x1024x512.size (k0_off9_inb (grid0.coords t) h)) (fun _ => rfl)).squeeze S1024x512 squeezes_S1x1024x512_S1024x512)
      ((B5.slice (Rect.unit (s := S2x1024x512) (k0_off9 (grid0.coords t)) S1x1024x512.size (k0_off9_inb (grid0.coords t) h)) (fun _ => rfl)).squeeze S1024x512 squeezes_S1x1024x512_S1024x512)
      ((W4.wordExact_slice rfl _ (k0_off9_wordsbf16 (grid0.coords t) h)).reshape _ _) ((W5.wordExact_slice rfl _ (k0_off9_wordsbf16 (grid0.coords t) h)).reshape _ _))
    let a ← Prog.lift (.load B6 (Rect.unit (s := S2x1024x512) (k0_off10 (grid0.coords t)) S1x1024x512.size (k0_off10_inb (grid0.coords t) h)).toLoadRect
      (View.loadsAt_vmem h_S1x1024x512))
    let b ← Prog.lift (.load B5 (Rect.unit (s := S2x1024x512) (k0_off10 (grid0.coords t)) S1x1024x512.size (k0_off10_inb (grid0.coords t) h)).toLoadRect
      (View.loadsAt_vmem h_S1x1024x512))
    let _ ← Prog.lift (.load (st0_2 t) allO.toLoadRect (View.loadsAt_vmem h_S1x1024x512))
    Prog.lift (.store (st0_2 t) allO (k0_pay2 a b) Finset.univ (View.stores_vmem_bits_univ h_S1x1024x512 rfl) (.inl rfl))
    segG (grid0.coords t) d h k
  else k

/-- The last point. -/
abbrev atEnd (i : grid0.Coords) : BitVec 1 :=
  Scalar.cmpi .ne (Scalar.extui (Scalar.cmpi .eq (BitVec.ofNat 32 (i 0).val) 16#32) : BitVec 32) 0#32

/-- The wait for the copies out of slot `s`. -/
def segF (s : Fin 2) (hs : (slotR s).WholeWords (EltTy.packing .bf16)) (k : KProg F) : KProg F := do
  Prog.lift (.waitDma2 (sndS s) (rcvQ s) (sndQ s) ((W5.wordExact_slice rfl _ hs).reshape _ _) ((W4.wordExact_slice rfl _ hs).reshape _ _))
  k

/-- At the last point: the last two copies are done. -/
def segE (i : grid0.Coords) (k : KProg F) : KProg F :=
  if h : atEnd i = 1#1 then
    segF 0 wordsbf16_S2x1024x512_S1x1024x512_0_0_0 (segF 1 wordsbf16_S2x1024x512_S1x1024x512_1_0_0 k)
  else k

/-- The body is the four steps in order. -/
theorem body_eq (t : Fin cfg0.N) : bodyAt0 (F := F) t
    = .op .deviceId fun d => segA (grid0.coords t) d (segB t d (segC t d (segE (grid0.coords t) (.ret ⟨⟩)))) := by
  unfold bodyAt0
  rw [cc0_body_eq_skeleton]
  unfold cc0_body_skel
  rw [k0_part1_eq_skeleton]
  rfl

end Cert.KernelIdeal.Pf

end
-- ==== Proof.Ops.lean ====
/- The steps of the kernel, one rule each: loads and stores on owned blocks, and the protocol's signals,
   waits and copies. -/
module

public import proofs.«01_k».proof.Proof.Segs

@[expose] public section

set_option maxRecDepth 16384

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

abbrev 𝒱₀ : Variants := Variants.none

/-- What device `c` needs before a kernel program so that `Q` holds after it. -/
abbrev Wp (c : Dev nD) (p : KProg F) (Q : PUnit → sProp 𝕄) : sProp 𝕄 :=
  wp frame (wpE (defs₀ (F := F)) 𝒱₀ (c : Thread nD τ) none) Set.univ p Q

/-! ## Loads and stores -/

section Mem
variable (c : Dev nD) {s : Shape} {e : EltTy} (M : Memref sig .tc .vmem s e) {o o' size : Fin s.rank → Nat}

/-- A load of a block owned on its own. -/
theorem op_load_slice (h : o = o') {p : ∀ a, o a + size a ≤ s.size a} {p' : ∀ a, o' a + size a ≤ s.size a}
    {hl : M.view.LoadsAt (Rect.unit o size p).toLoadRect} {k : ((⟨s.rank, size⟩ : Shape).Idx → Elt F e) → KProg F}
    {Q : PUnit → sProp 𝕄} {X : (⟨s.rank, size⟩ : Shape).Idx → Elt F e} :
    owns (c : Thread nD τ) (M.slice (Rect.unit o' size p') (fun _ => rfl)) fullShare X
      ⊢ iprop((owns (c : Thread nD τ) (M.slice (Rect.unit o' size p') (fun _ => rfl)) fullShare X -∗ Wp c (k X) Q)
        -∗ Wp c (.op (.load M (Rect.unit o size p).toLoadRect hl) k) Q) := by
  subst h
  unfold owns
  iintro ⟨%f, %hf, H⟩ Hk
  iapply (wp_load_rect 𝒱₀ (c : Thread nD τ) none Set.univ (m := M) (r := Rect.unit o size p) (S := (M.access (Rect.unit o size p)).set) (fun _ h => h)) $$ H
  iintro H
  rw [show (M.access (Rect.unit o size p)).read (Elt F) f = X from hf]
  iapply Hk
  iexists f
  isplitr; · ipureintro; exact hf
  iexact H

/-- A load of a part of an owned block. -/
theorem op_load_part (h : o = o') {p : ∀ a, o a + size a ≤ s.size a} {p' : ∀ a, o' a + size a ≤ s.size a}
    {hl : M.view.LoadsAt (Rect.unit o size p).toLoadRect} {k : ((⟨s.rank, size⟩ : Shape).Idx → Elt F e) → KProg F}
    {Q : PUnit → sProp 𝕄} {X : s.Idx → Elt F e} :
    owns (c : Thread nD τ) M fullShare X
      ⊢ iprop((owns (c : Thread nD τ) M fullShare X -∗ Wp c (k (fun x => X ((Rect.unit o' size p').emb x))) Q)
        -∗ Wp c (.op (.load M (Rect.unit o size p).toLoadRect hl) k) Q) := by
  subst h
  unfold owns
  iintro ⟨%f, %hf, H⟩ Hk
  iapply (wp_load 𝒱₀ (c : Thread nD τ) none Set.univ (m := M) (r := (Rect.unit o size p).toLoadRect) (S := M.view.set) (View.setOn_subset_set _ _)) $$ H
  iintro H
  rw [show M.view.readAt (Elt F) (Rect.unit o size p).toLoadRect f = fun x => X ((Rect.unit o size p).emb x) from by subst hf; rfl]
  iapply Hk
  iexists f
  isplitr; · ipureintro; exact hf
  iexact H

/-- A store over a block owned on its own. -/
theorem op_store_slice (h : o = o') {p : ∀ a, o a + size a ≤ s.size a} {p' : ∀ a, o' a + size a ≤ s.size a}
    {w : (⟨s.rank, size⟩ : Shape).Idx → Elt F e}
    {hx : (M.access (Rect.unit o size p)).Stores Finset.univ} {hm : Finset.univ = Finset.univ ∨ ∀ a, (Rect.unit o size p).stride a = 1}
    {k : PUnit → KProg F} {Q : PUnit → sProp 𝕄} {X : (⟨s.rank, size⟩ : Shape).Idx → Elt F e} :
    owns (c : Thread nD τ) (M.slice (Rect.unit o' size p') (fun _ => rfl)) fullShare X
      ⊢ iprop((owns (c : Thread nD τ) (M.slice (Rect.unit o' size p') (fun _ => rfl)) fullShare w -∗ Wp c (k ⟨⟩) Q)
        -∗ Wp c (.op (.store M (Rect.unit o size p) w Finset.univ hx hm) k) Q) := by
  subst h
  unfold owns
  iintro ⟨%f, -, H⟩ Hk
  iapply (wp_store 𝒱₀ (c : Thread nD τ) none Set.univ (m := M) (r := Rect.unit o size p) (S := (M.access (Rect.unit o size p)).set) (fun _ h => h)) $$ H
  iintro H
  iapply Hk
  iexists _
  isplitr
  · ipureintro; exact View.read_write_univ (v := M.access (Rect.unit o size p)) f w
  iexact H

/-- The rectangle of a block's own sizes at offset zero is the whole block. -/
theorem emb_unit_zero (h : o = fun _ => 0) {p : ∀ a, o a + s.size a ≤ s.size a} (x : s.Idx) :
    (Rect.unit o s.size p).emb x = x := by
  subst h
  exact Rect.emb_whole_apply s x

/-- A load of a whole owned block. -/
theorem op_load_all (h : o = fun _ => 0) {p : ∀ a, o a + s.size a ≤ s.size a}
    {hl : M.view.LoadsAt (Rect.unit o s.size p).toLoadRect} {k : (s.Idx → Elt F e) → KProg F}
    {Q : PUnit → sProp 𝕄} {X : s.Idx → Elt F e} :
    owns (c : Thread nD τ) M fullShare X
      ⊢ iprop((owns (c : Thread nD τ) M fullShare X -∗ Wp c (k X) Q)
        -∗ Wp c (.op (.load M (Rect.unit o s.size p).toLoadRect hl) k) Q) := by
  have hX : (fun x => X ((Rect.unit o s.size p).emb x)) = X := funext fun x => by rw [emb_unit_zero h]
  have key : ∀ Y : s.Idx → Elt F e, Y = X → (owns (c : Thread nD τ) M fullShare X
      ⊢ iprop((owns (c : Thread nD τ) M fullShare X -∗ Wp c (k Y) Q)
        -∗ Wp c (.op (.load M (Rect.unit o s.size p).toLoadRect hl) k) Q)) → (owns (c : Thread nD τ) M fullShare X
      ⊢ iprop((owns (c : Thread nD τ) M fullShare X -∗ Wp c (k X) Q)
        -∗ Wp c (.op (.load M (Rect.unit o s.size p).toLoadRect hl) k) Q)) := by rintro _ rfl h; exact h
  exact key _ hX (op_load_part (F := F) c M (o := o) (o' := o) (size := s.size) rfl (p := p) (p' := p) (hl := hl) (k := k) (Q := Q) (X := X))

/-- A store over a whole owned block. -/
theorem op_store_all (h : o = fun _ => 0) {p : ∀ a, o a + s.size a ≤ s.size a} {w : s.Idx → Elt F e}
    {hx : (M.access (Rect.unit o s.size p)).Stores Finset.univ} {hm : Finset.univ = Finset.univ ∨ ∀ a, (Rect.unit o s.size p).stride a = 1}
    {k : PUnit → KProg F} {Q : PUnit → sProp 𝕄} {X : s.Idx → Elt F e} :
    owns (c : Thread nD τ) M fullShare X
      ⊢ iprop((owns (c : Thread nD τ) M fullShare w -∗ Wp c (k ⟨⟩) Q)
        -∗ Wp c (.op (.store M (Rect.unit o s.size p) w Finset.univ hx hm) k) Q) := by
  unfold owns
  iintro ⟨%f, -, H⟩ Hk
  iapply (wp_store 𝒱₀ (c : Thread nD τ) none Set.univ (m := M) (r := Rect.unit o s.size p) (S := M.view.set)
    (View.set_slice_subset M.view (Rect.unit o s.size p))) $$ H
  iintro H
  iapply Hk
  iexists _
  isplitr
  · ipureintro
    funext x
    have := View.read_slice_write_emb (v := M.view) (Val := Elt F) (Rect.unit o s.size p) f w (M := Finset.univ) (x := x) (Finset.mem_univ _)
    rwa [emb_unit_zero h] at this
  iexact H

end Mem

/-! ## The closed forms of the kernel's addresses -/

theorem coord_val (t : Fin cfg0.N) : ((grid0.coords t) 0).val = t.val := by
  revert t; exact (by decide +kernel : ∀ t : Fin grid0.N, ((grid0.coords t) 0).val = t.val)

theorem off1 (t : Fin cfg0.N) : k0_off1 (grid0.coords t) = ![(par t.val).val] := by rw [k0_off1_eq, coord_val]; rfl
theorem off2 (t : Fin cfg0.N) : k0_off2 (grid0.coords t) = ![(par t.val).val, 0, 0] := by rw [k0_off2_eq, coord_val]; rfl
theorem off4 (t : Fin cfg0.N) : k0_off4 (grid0.coords t) = ![(par t.val).val, 0, 0] := by rw [k0_off4_eq, coord_val]; rfl
theorem off5 (t : Fin cfg0.N) : k0_off5 (grid0.coords t) = ![(par t.val).val] := by rw [k0_off5_eq, coord_val]; rfl
theorem off6 (t : Fin cfg0.N) : k0_off6 (grid0.coords t) = ![(par t.val).val, 0, 0] := by rw [k0_off6_eq, coord_val]; rfl
theorem off8 (t : Fin cfg0.N) : k0_off8 (grid0.coords t) = ![(par (t.val + 1)).val] := by rw [k0_off8_eq, coord_val]; rfl
theorem off9 (t : Fin cfg0.N) : k0_off9 (grid0.coords t) = ![(par (t.val + 1)).val, 0, 0] := by rw [k0_off9_eq, coord_val]; rfl
theorem off10 (t : Fin cfg0.N) : k0_off10 (grid0.coords t) = ![(par (t.val + 1)).val, 0, 0] := by rw [k0_off10_eq, coord_val]; rfl
theorem off3 (c : Dev nD) : k0_off3 c = ![1024 * (other c).val, 0] := by
  rw [k0_off3_eq]; show ![_, 0] = ![1024 * (1 - (c.val / 4) % 2), 0]; rw [Nat.mul_sub, Nat.mul_one]
theorem off7 (c : Dev nD) : k0_off7 c = ![1024 * (own c).val, 0] := by rw [k0_off7_eq]; rfl
theorem dev1 (c : Dev nD) {h} : (⟨k0_dev1 c, h⟩ : Dev nD) = pr c := Fin.ext (k0_dev1_eq c)
theorem dev2 (c : Dev nD) {h} : (⟨k0_dev2 c, h⟩ : Dev nD) = pr c := Fin.ext (k0_dev2_eq c)
theorem dev3 (c : Dev nD) {h} : (⟨k0_dev3 c, h⟩ : Dev nD) = pr c := Fin.ext (k0_dev3_eq c)

/-- A slot or a semaphore at an offset that is the slot's is the slot's. -/
theorem sndQ_eq {o : Fin 3 → Nat} {s : Fin 2} (h : o = ![s.val, 0, 0]) {p} :
    ((B4.slice (Rect.unit (s := S2x1024x512) o S1x1024x512.size p) (fun _ => rfl)).squeeze S1024x512 squeezes_S1x1024x512_S1024x512) = sndQ s := by
  subst h; rfl
theorem rcvQ_eq {o : Fin 3 → Nat} {s : Fin 2} (h : o = ![s.val, 0, 0]) {p} :
    ((B5.slice (Rect.unit (s := S2x1024x512) o S1x1024x512.size p) (fun _ => rfl)).squeeze S1024x512 squeezes_S1x1024x512_S1024x512) = rcvQ s := by
  subst h; rfl
theorem sndS_eq {o : Fin 1 → Nat} {s : Fin 2} (h : o = ![s.val]) {p} :
    ((cc0_scratch4.slice (Rect.unit (s := S2) o S1.size p)).squeeze S_ squeezes_S1_S_).sem = sndS s := by subst h; rfl
theorem rcvS_eq {o : Fin 1 → Nat} {s : Fin 2} (h : o = ![s.val]) {p} :
    ((cc0_scratch5.slice (Rect.unit (s := S2) o S1.size p)).squeeze S_ squeezes_S1_S_).sem = rcvS s := by subst h; rfl

/-! ## Shared knowledge -/

variable (m : (ℓ : Loc nD τ sig) → Buf (Elt F) ℓ)

/-- The semaphores of a device that the kernel scopes. -/
abbrev osem : Fin 5 → SemLoc sig := fun | 0 => .reg crdS | 1 => .dma (sndS 0) | 2 => .dma (sndS 1) | 3 => .dma (rcvS 0) | 4 => .dma (rcvS 1)
theorem osem_inj : Function.Injective osem := by decide
theorem bar_ne_osem (i : Fin 5) : (SemLoc.reg barS : SemLoc sig) ≠ osem i := by revert i; decide

def barEmb : Dev nD ↪ GSem nD τ sig := ⟨barCell, fun a b h => congrArg (fun g : GSem nD τ sig => g.1.1) h⟩
def scEmb : Dev nD × Fin 5 ↪ GSem nD τ sig :=
  ⟨fun x => ((x.1 : Thread nD τ), osem x.2), fun a b h => Prod.ext (congrArg (fun g : GSem nD τ sig => g.1.1) h) (osem_inj (congrArg Prod.snd h))⟩
/-- The barrier cells, there from launch on, and the cells of the scoped semaphores. -/
def barCells : Finset (GSem nD τ sig) := Finset.univ.map barEmb
def scCells : Finset (GSem nD τ sig) := Finset.univ.map scEmb

/-- The memory a receive slot's invariant keeps. -/
abbrev slotOf (k : K) : sProp 𝕄 := rcvAny k.1 k.2

/-- What everyone knows: every cell's and every slot's invariant, and the levels. -/
def know (κ : GSem nD τ sig → ℕ) (ιs : K → ℕ) : sProp 𝕄 :=
  iprop(bigSep (barCells ∪ scCells) (fun g => cellInv ER (Rd m) (κ g) g) ∗ bigSep Finset.univ (fun k => slotInv ES (ιs k) k (slotOf k)) ∗ levAts L lv)
instance (κ : GSem nD τ sig → ℕ) (ιs : K → ℕ) : BI.Persistent (know m κ ιs) := by unfold know; infer_instance

variable {m} {κ : GSem nD τ sig → ℕ} {ιs : K → ℕ}

theorem know_cell {g : GSem nD τ sig} (h : g ∈ barCells ∪ scCells) : know m κ ιs ⊢ cellInv ER (Rd m) (κ g) g := by
  unfold know
  exact sep_elim_left.trans (show _ ⊢ _ from BI.bigSep_elim (Φ := fun g => cellInv ER (Rd m) (κ g) g) h)
theorem know_sc (c : Dev nD) (i : Fin 5) : know m κ ιs ⊢ cellInv ER (Rd m) (κ ((c : Thread nD τ), osem i)) ((c : Thread nD τ), osem i) :=
  know_cell (Finset.mem_union_right _ (Finset.mem_map_of_mem scEmb (Finset.mem_univ (c, i))))
theorem know_bar (c : Dev nD) : know m κ ιs ⊢ cellInv ER (Rd m) (κ (barCell c)) (barCell c) :=
  know_cell (Finset.mem_union_left _ (Finset.mem_map_of_mem barEmb (Finset.mem_univ c)))
theorem know_crd (c : Dev nD) : know m κ ιs ⊢ cellInv ER (Rd m) (κ (crdCell c)) (crdCell c) := know_sc c 0
theorem know_snd (c : Dev nD) (s : Fin 2) : know m κ ιs ⊢ cellInv ER (Rd m) (κ (sndCell c s)) (sndCell c s) :=
  match s with | 0 => know_sc c 1 | 1 => know_sc c 2
theorem know_rcv (c : Dev nD) (s : Fin 2) : know m κ ιs ⊢ cellInv ER (Rd m) (κ (rcvCell c s)) (rcvCell c s) :=
  match s with | 0 => know_sc c 3 | 1 => know_sc c 4
theorem know_slot (k : K) : know m κ ιs ⊢ slotInv ES (ιs k) k (slotOf k) := by
  unfold know
  exact sep_elim_right.trans (sep_elim_left.trans (show _ ⊢ _ from BI.bigSep_elim (Φ := fun k => slotInv ES (ιs k) k (slotOf k)) (Finset.mem_univ k)))
theorem know_lev : know m κ ιs ⊢ levAts L lv := by unfold know; iintro ⟨-, -, #H⟩; iexact H

/-! ## Rules of the protocol -/

section Proto
variable (c : Dev nD)

/-- A receive slot is not empty, so it is owned once. -/
theorem rcv_once (s : Fin 2) : iprop(rcvAny (F := F) c s ∗ rcvAny c s) ⊢ (False : sProp 𝕄) :=
  slot_slot_false ⟨(rcvM s).view.emb (fun a => ⟨0, by revert a; decide⟩), View.emb_mem_set _ _⟩

/-- What lands in a receive slot is what the send slot held. -/
theorem landed (s : Fin 2) (fd : Buf (Elt F) ((rcvM s).view.loc ((pr c : Dev nD) : Thread nD τ))) (fs : Buf (Elt F) ((sndM s).view.loc (c : Thread nD τ))) :
    (rcvM s).view.read (Elt F) ((rcvQ s).view.write (Elt F) fd ((sndQ s).view.read (Elt F) fs) Finset.univ) = (sndM s).view.read (Elt F) fs := by
  funext x
  have hn : S1024x512.numel = S1x1024x512.numel := by decide
  obtain ⟨y, rfl⟩ := (Shape.reshapeEquiv hn).surjective x
  exact View.read_write_of_mem (v := (rcvQ s).view) (Val := Elt F) fd ((sndQ s).view.read (Elt F) fs) (Finset.mem_univ y)

theorem sndQ_set (s : Fin 2) : (sndQ s).view.set = (sndM s).view.set := View.set_reshape _ _
theorem rcvQ_set (s : Fin 2) : (rcvQ s).view.set = (rcvM s).view.set := View.set_reshape _ _

/-- A slot's elements are the same flat. -/
theorem snd_flat (s : Fin 2) (f : Buf (Elt F) ((sndM s).view.loc (c : Thread nD τ))) :
    ((sndM s).view.loc (c : Thread nD τ) ↦[(sndM s).view.set]{fullShare} f : sProp 𝕄)
      = ((sndQ s).view.loc (c : Thread nD τ) ↦[(sndQ s).view.set]{fullShare} f) := by rw [sndQ_set]
theorem rcv_flat (s : Fin 2) (f : Buf (Elt F) ((rcvM s).view.loc (c : Thread nD τ))) :
    ((rcvM s).view.loc (c : Thread nD τ) ↦[(rcvM s).view.set]{fullShare} f : sProp 𝕄)
      = ((rcvQ s).view.loc (c : Thread nD τ) ↦[(rcvQ s).view.set]{fullShare} f) := by rw [rcvQ_set]

/-- A send slot comes back at contents not chosen. -/
theorem snd_back (s : Fin 2) (f : Buf (Elt F) ((sndQ s).view.loc (c : Thread nD τ))) :
    ((sndQ s).view.loc (c : Thread nD τ) ↦[(sndQ s).view.set]{fullShare} f : sProp 𝕄) ⊢ sndAny c s :=
  (Entails.of_eq (snd_flat c s f).symm).trans (by
    show _ ⊢ iprop(∃ g, (sndM s).view.loc (c : Thread nD τ) ↦[(sndM s).view.set]{fullShare} g)
    iintro H
    iexists f
    iexact H)

/-- The landed slot is owned at what was sent. -/
theorem rcv_back (s : Fin 2) (fd : Buf (Elt F) ((rcvQ s).view.loc ((pr c : Dev nD) : Thread nD τ))) (fs : Buf (Elt F) ((sndQ s).view.loc (c : Thread nD τ)))
    {X : S1x1024x512.Idx → Elt F .bf16} (hX : (sndM s).view.read (Elt F) fs = X) :
    ((rcvQ s).view.loc ((pr c : Dev nD) : Thread nD τ) ↦[(rcvQ s).view.set]{fullShare} ((rcvQ s).view.write (Elt F) fd ((sndQ s).view.read (Elt F) fs) Finset.univ) : sProp 𝕄)
      ⊢ owns ((pr c : Dev nD) : Thread nD τ) (rcvM s) fullShare X :=
  (Entails.of_eq (rcv_flat (pr c) s _).symm).trans (by
    unfold owns
    iintro H
    iexists _
    isplitr
    · ipureintro; exact (landed c s fd fs).trans hX
    iexact H)

/-- The debts of a device's copy of chunk `j`: its tokens, and the right to write the slot it goes to. -/
def sendKit (j : ℕ) : sProp 𝕄 :=
  iprop(dutyTok ER (sndCell c (par j)) (j / 2) 0 ∗ dutyTok ER (rcvCell (pr c) (par j)) (j / 2) 0 ∗ writeTok ES (pr c, par j) (j / 2 + 1))
/-- A device's place on the semaphore of its copies, of its partner's copies, and on its receive slot. -/
def sndAt (j : ℕ) : sProp 𝕄 := iprop(atPos ER (sndCell c (par j)) (j / 2) ∅ 0 ∗ reached ER (sndCell c (par j)) (j / 2))
def rcvAt (j : ℕ) : sProp 𝕄 := iprop(atPos ER (rcvCell c (par j)) (j / 2) ∅ 0 ∗ reached ER (rcvCell c (par j)) (j / 2))
def rdAt (j : ℕ) : sProp 𝕄 := readerAt ES (c, par j) (j / 2 + 1)
def crdSt (n : ℕ) : sProp 𝕄 :=
  iprop(∃ S : Finset ℕ, ⌜S ⊆ Finset.range 14 ∧ n + (Finset.range 14 \ S).card ≤ 14⌝ ∗ atPos ER (crdCell c) 0 S n
    ∗ bigSep S (fun k => frees (F := F) (pr c) (k + 3)))

theorem par_two (j : ℕ) : par (j + 2) = par j := Fin.ext (Nat.add_mod_right j 2)
theorem half_two (j : ℕ) : (j + 2) / 2 = j / 2 + 1 := Nat.add_div_right j (by decide)
theorem two_half (j : ℕ) : 2 * (j / 2) + (par j).val = j := Nat.div_add_mod j 2
theorem half_lt {j : ℕ} (h : j < 16) : j / 2 < 8 := by omega

theorem credit_all (dst : Memref sig .tc .vmem S1024x512 .bf16) : dst.view.dmaCredit = N := rfl

/-- Sending chunk `j`. -/
theorem op_send {j b : ℕ} (hj : j < 16) {W : Waits sig ℕ} {o : Fin 3 → ℕ} (ho : o = ![(par j).val, 0, 0]) {p p' : ∀ a, o a + S1x1024x512.size a ≤ S2x1024x512.size a}
    {q : Fin 1 → ℕ} (hq : q = ![(par j).val]) {pq pq' : ∀ a, q a + S1.size a ≤ S2.size a} {n : Dev nD} (hn : n = pr c)
    {h1 h2 h3} {k : PUnit → KProg F} {Q : PUnit → sProp 𝕄} :
    iprop(know m κ ιs ∗ free (pr c) j ∗ sendKit c j ∗ reached ER (sndCell c (par j)) (j / 2)
        ∗ owns (c : Thread nD τ) (sndM (par j)) fullShare (sendV m c j) ∗ owes (c : Thread nD τ) (Ow c j b) W)
      ⊢ iprop(((cred (tallyAt (sndCell c (par j)) 0 N) ∗ owes (c : Thread nD τ) (Ow c (j + 1) b) W) -∗ Wp c (k ⟨⟩) Q)
        -∗ Wp c (.op (.enqueueDma
            ((B4.slice (Rect.unit (s := S2x1024x512) o S1x1024x512.size p) (fun _ => rfl)).squeeze S1024x512 squeezes_S1x1024x512_S1024x512)
            (.remote (Dev.tc n) ((B5.slice (Rect.unit (s := S2x1024x512) o S1x1024x512.size p') (fun _ => rfl)).squeeze S1024x512 squeezes_S1x1024x512_S1024x512)
              (.dma ((cc0_scratch4.slice (Rect.unit (s := S2) q S1.size pq)).squeeze S_ squeezes_S1_S_).sem))
            (.dma ((cc0_scratch5.slice (Rect.unit (s := S2) q S1.size pq')).squeeze S_ squeezes_S1_S_).sem) h1 h2 h3) k) Q) := by
  subst ho hq hn
  unfold sendKit free
  iintro ⟨#Hk, ⟨#Hrel, #Hrch⟩, ⟨Ht1, Ht2, Hw⟩, #Hr1, Hs, HO⟩ Hc
  ihave #HI1 := (know_snd c (par j)) $$ Hk
  ihave #HI2 := (know_rcv (pr c) (par j)) $$ Hk
  ihave #HI3 := (know_slot (pr c, par j)) $$ Hk
  imod (slot_take ES (Set.mem_univ _) (j / 2 + 1)) $$ [Hw] with Hd
  · isplitr; · iexact HI3
    isplitr; · iexact Hrel
    iexact Hw
  ihave Hd := (Entails.of_eq (show slotOf (F := F) (pr c, par j) = iprop(∃ fd, (rcvM (par j)).view.loc ((pr c : Dev nD) : Thread nD τ) ↦[(rcvM (par j)).view.set]{fullShare} fd) from rfl)) $$ Hd
  icases Hd with ⟨%fd, Hd⟩
  unfold owns
  icases Hs with ⟨%fs, %hfs, Hs⟩
  ihave Hs := (Entails.of_eq (snd_flat c (par j) fs)) $$ Hs
  ihave Hd := (Entails.of_eq (rcv_flat (pr c) (par j) fd)) $$ Hd
  iapply (Rounds.wp_send_pointsTo 𝒱₀ ER (Rd m) (c : Thread nD τ) none (c' := ((pr c : Dev nD) : Thread nD τ)) (src := sndQ (par j)) (dst := rcvQ (par j))
    (sS := .dma (sndS (par j))) (sem := .dma (rcvS (par j))) (q := fullShare) (fs := fs) (fd := fd)
    (κ₁ := κ (sndCell c (par j))) (κ₂ := κ (rcvCell (pr c) (par j)))
    (r₁ := j / 2) (r₂ := j / 2) (d₁ := 0) (d₂ := 0)
    (by rw [duties_snd m c _ _ (half_lt hj)]; exact Finset.mem_singleton_self _) (by rw [duties_rcv m _ _ _ (half_lt hj)]; exact Finset.mem_singleton_self _)
    j 0 N (credit_rcv _) (amount_snd m c _ _ _) (amount_rcv m _ _ _ _) (Ow c (j + 1) b) (Ow_send c hj)
    (by
      rw [pay_snd]
      exact snd_back c (par j) fs)
    (by
      rw [pay_rcv, pr_pr, two_half]
      exact rcv_back c (par j) fd fs hfs)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hrch
  iexact Hc

/-- Waiting for the copy of chunk `j`. -/
theorem op_snd_wait {j a b : ℕ} (hj : j < 16) {W : Waits sig ℕ} {q : Fin 1 → ℕ} (hq : q = ![(par j).val]) {pq : ∀ a, q a + S1.size a ≤ S2.size a}
    {src : Memref sig .tc .vmem S1024x512 .bf16} {dst : Memref sig .tc .vmem S1024x512 .bf16} {h1 h2} {k : PUnit → KProg F} {Q : PUnit → sProp 𝕄} :
    iprop(know m κ ιs ∗ sndAt c j ∗ cred (tallyAt (sndCell c (par j)) 0 N) ∗ owes (c : Thread nD τ) (Ow c a b) W)
      ⊢ iprop(((sndAt c (j + 2) ∗ sndAny c (par j) ∗ owes (c : Thread nD τ) (Ow c a b) (insert (.dma (sndS (par j)), 0) W)) -∗ Wp c (k ⟨⟩) Q)
        -∗ Wp c (.op (.waitDma2 ((cc0_scratch4.slice (Rect.unit (s := S2) q S1.size pq)).squeeze S_ squeezes_S1_S_).sem src dst h1 h2) k) Q) := by
  subst hq
  unfold sndAt
  rw [par_two, half_two]
  iintro ⟨#Hk, ⟨Hat, -⟩, Hcr, HO⟩ Hc
  iapply (Rounds.wp_wait_rest_token 𝒱₀ ER (Rd m) (c : Thread nD τ) none (κ := κ (sndCell c (par j))) (sm := .dma (sndS (par j))) (k' := N)
      (fun K => (wpE_waitDma2_eq (src := src) (dst := dst) 𝒱₀ (c : Thread nD τ) none Set.univ K).trans (by rw [credit_all])) (Set.mem_univ _) 0 (O := Ow c a b) (W := W) (R := j / 2) (m := 0) (T := ∅)
      (by rw [Nat.zero_add, expect_snd m c _ _ (half_lt hj)])) $$ [Hcr HO Hat]
  · isplitr; · iapply (know_snd c (par j)) $$ Hk
    isplitl [Hcr]; · iexact Hcr
    isplitl [HO]; · iexact HO
    isplitr
    · iapply (mayWait c (.dma (sndS (par j))) (by decide) (by rw [lv_snd]; omega) (by rw [lv_snd]; omega))
      iapply know_lev $$ Hk
    iexact Hat
  iintro ⟨HO, Hat, #Hr, Hpay⟩
  ihave Hpay := (Entails.of_eq (rest_snd m c (par j) (j / 2) (half_lt hj))) $$ Hpay
  iapply Hc
  isplitl [Hat]
  · isplitl [Hat]; · iexact Hat
    iexact Hr
  isplitl [Hpay]; · iexact Hpay
  iexact HO

/-- Waiting for the partner's copy of chunk `j`. -/
theorem op_rcv_wait {j a b : ℕ} (hj : j < 16) (ha : j < a) (hb : j ≤ b) {W : Waits sig ℕ} {q : Fin 1 → ℕ} (hq : q = ![(par j).val]) {pq : ∀ a, q a + S1.size a ≤ S2.size a}
    {src : Memref sig .tc .vmem S1024x512 .bf16} {dst : Memref sig .tc .vmem S1024x512 .bf16} {h1 h2} {k : PUnit → KProg F} {Q : PUnit → sProp 𝕄} :
    iprop(know m κ ιs ∗ rcvAt c j ∗ cred (tallyAt (rcvCell c (par j)) j N) ∗ owes (c : Thread nD τ) (Ow c a b) W)
      ⊢ iprop(((rcvAt c (j + 2) ∗ owns (c : Thread nD τ) (rcvM (par j)) fullShare (sendV m (pr c) j)
            ∗ owes (c : Thread nD τ) (Ow c a b) (insert (.dma (rcvS (par j)), j) W)) -∗ Wp c (k ⟨⟩) Q)
        -∗ Wp c (.op (.waitDma2 ((cc0_scratch5.slice (Rect.unit (s := S2) q S1.size pq)).squeeze S_ squeezes_S1_S_).sem src dst h1 h2) k) Q) := by
  subst hq
  unfold rcvAt
  rw [par_two, half_two]
  iintro ⟨#Hk, ⟨Hat, -⟩, Hcr, HO⟩ Hc
  iapply (Rounds.wp_wait_rest_token 𝒱₀ ER (Rd m) (c : Thread nD τ) none (κ := κ (rcvCell c (par j))) (sm := .dma (rcvS (par j))) (k' := N)
      (fun K => (wpE_waitDma2_eq (src := src) (dst := dst) 𝒱₀ (c : Thread nD τ) none Set.univ K).trans (by rw [credit_all])) (Set.mem_univ _) j (O := Ow c a b) (W := W) (R := j / 2) (m := 0) (T := ∅)
      (by rw [Nat.zero_add, expect_rcv m c _ _ (half_lt hj)])) $$ [Hcr HO Hat]
  · isplitr; · iapply (know_rcv c (par j)) $$ Hk
    isplitl [Hcr]; · iexact Hcr
    isplitl [HO]; · iexact HO
    isplitr
    · iapply (mayWait c (.dma (rcvS (par j))) hj (by rw [lv_rcv]; omega) (by rw [lv_rcv]; omega))
      iapply know_lev $$ Hk
    iexact Hat
  iintro ⟨HO, Hat, #Hr, Hpay⟩
  ihave Hpay := (Entails.of_eq ((rest_rcv m c (par j) (j / 2) (half_lt hj)).trans (by rw [two_half]))) $$ Hpay
  iapply Hc
  isplitl [Hat]
  · isplitl [Hat]; · iexact Hat
    iexact Hr
  isplitl [Hpay]; · iexact Hpay
  iexact HO

/-- Waiting for a credit. -/
theorem op_crd_wait {n a b : ℕ} (hn : n < 14) (ha : n + 1 < a) (hb : n < b) {W : Waits sig ℕ} {k : PUnit → KProg F} {Q : PUnit → sProp 𝕄} :
    iprop(know m κ ιs ∗ crdSt c n ∗ cred (tallyAt (crdCell c) n 1) ∗ owes (c : Thread nD τ) (Ow c a b) W)
      ⊢ iprop(((crdSt c (n + 1) ∗ owes (c : Thread nD τ) (Ow c a b) (W ∪ {(.reg crdS, n)})) -∗ Wp c (k ⟨⟩) Q)
        -∗ Wp c (.op (.semWait crdS 1) k) Q) := by
  unfold crdSt
  iintro ⟨#Hk, ⟨%T, %hT, Hat, #Hf⟩, Hcr, HO⟩ Hc
  iapply (Rounds.wp_wait 𝒱₀ ER (Rd m) (c : Thread nD τ) none (κ := κ (crdCell c)) (sm := .reg crdS)
      (wpE_semWait_eq 𝒱₀ (c : Thread nD τ) none Set.univ) (Set.mem_univ _) (cr := Finsupp.single n 1) {(.reg crdS, n)} (O := Ow c a b) (W := W) (R := 0) (m := n) (T := T)
      (Util.total_single _ _) (image_single_subset (.reg crdS) n 1)) $$ [Hcr HO Hat]
  · isplitr; · iapply (know_crd c) $$ Hk
    isplitl [Hcr]; · iexact Hcr
    isplitl [HO]; · iexact HO
    isplitr
    · iapply (mayWait c (.reg crdS) (show n < 16 by omega) (by rw [lv_crd]; omega) (by rw [lv_crd]; omega))
      iapply know_lev $$ Hk
    iexact Hat
  iintro %S ⟨%hS, HO, Hat, Hpay⟩
  rw [duties_crd, expect_crd] at hS
  ihave #Hpay := (Entails.of_eq (bigSep_congr (fun d _ => pay_crd m c 0 d))) $$ Hpay
  iapply Hc
  isplitr [HO]
  · iexists S
    isplitr; · ipureintro; exact hS.2
    isplitl [Hat]; · iexact Hat
    rw [show bigSep S (fun k => frees (F := F) (pr c) (k + 3))
      = iprop(bigSep T (fun k => frees (F := F) (pr c) (k + 3)) ∗ bigSep (S \ T) (fun k => frees (F := F) (pr c) (k + 3))) from bigSep_sdiff_split hS.1]
    isplitr; · iexact Hf
    iexact Hpay
  iexact HO

/-- After `n + 1` credits the first `n + 3` chunks may be written. -/
theorem crd_get (n : ℕ) : crdSt (F := F) c (n + 1) ⊢ frees (pr c) (n + 3) := by
  unfold crdSt
  iintro ⟨%S, %hS, -, Hf⟩
  have hk : ∃ k ∈ S, n ≤ k := by
    by_contra hc
    push Not at hc
    have h1 : S.card ≤ n := (Finset.card_le_card (fun k hk => Finset.mem_range.mpr (hc k hk))).trans (Finset.card_range n).le
    have h2 := Finset.card_sdiff_add_card_eq_card hS.1
    rw [Finset.card_range] at h2
    omega
  obtain ⟨k, hkS, hk⟩ := hk
  iapply ((show _ ⊢ _ from BI.bigSep_elim (Φ := fun k => frees (F := F) (pr c) (k + 3)) hkS).trans
    (show frees (F := F) (pr c) (k + 3) ⊢ frees (pr c) (n + 3) from BI.bigSep_subset (Finset.range_mono (by omega))))
  iexact Hf

/-- Giving a credit. -/
theorem op_crd_signal {a b : ℕ} (hb : b < 14) {W : Waits sig ℕ} {n : Dev nD} (hn : n = pr c) {k : PUnit → KProg F} {Q : PUnit → sProp 𝕄} :
    iprop(know m κ ιs ∗ dutyTok ER (crdCell (pr c)) 0 b ∗ reached ER (crdCell (pr c)) 0 ∗ frees c (b + 3) ∗ owes (c : Thread nD τ) (Ow c a b) W)
      ⊢ iprop((owes (c : Thread nD τ) (Ow c a (b + 1)) W -∗ Wp c (k ⟨⟩) Q)
        -∗ Wp c (.op (.semSignal (Dev.tc n) crdS 1) k) Q) := by
  subst hn
  iintro ⟨#Hk, Ht, #Hr, #Hf, HO⟩ Hc
  iapply (Rounds.wp_signal 𝒱₀ ER (Rd m) (c : Thread nD τ) none (dst := ((pr c : Dev nD) : Thread nD τ)) (sem := crdS) (r := 0) (d := b) (k' := 1) (κ := κ (crdCell (pr c)))
      (by rw [duties_crd]; exact Finset.mem_range.mpr hb) (amount_crd m _ _ _) b (Ow c a (b + 1)) (Ow_credit c hb)) $$ [HO Ht]
  · isplitr; · iapply (know_crd (pr c)) $$ Hk
    isplitl [HO]; · iexact HO
    isplitl [Ht]; · iexact Ht
    isplitr; · rw [pay_crd, pr_pr]; iexact Hf
    iexact Hr
  iexact Hc

end Proto

end Cert.KernelIdeal.Pf

end
-- ==== Proof.Body.lean ====
/- What a device holds between the steps of the body, and what each step does to it. -/
module

public import proofs.«01_k».proof.Proof.Ops

@[expose] public section

set_option maxRecDepth 16384

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

/-! ## Runs of chunks -/

section Runs
variable {Φ : ℕ → sProp (MT nD τ sig ℕ (Elt F) ℕ UU ℕ)} {a b a' b' : ℕ}

theorem run_take (h : a < b) : bigSep (Finset.Ico a b) Φ ⊢ iprop(Φ a ∗ bigSep (Finset.Ico (a + 1) b) Φ) := by
  rw [Ico_head h]; exact Entails.of_eq (bigSep_insert (not_mem_Ico_succ _ _))
theorem run_snoc (h : a ≤ b) : iprop(Φ b ∗ bigSep (Finset.Ico a b) Φ) ⊢ bigSep (Finset.Ico a (b + 1)) Φ := by
  have : Finset.Ico a (b + 1) = insert b (Finset.Ico a b) := by
    ext x; simp only [Finset.mem_insert, Finset.mem_Ico]; omega
  rw [this]; exact Entails.of_eq (bigSep_insert (by simp only [Finset.mem_Ico]; omega)).symm
theorem run_none (h : b ≤ a) (h' : b' ≤ a') : bigSep (Finset.Ico a b) Φ ⊢ bigSep (Finset.Ico a' b') Φ := by
  rw [Finset.Ico_eq_empty_of_le h, Finset.Ico_eq_empty_of_le h']
end Runs

/-! ## Which steps a grid point takes -/

theorem cond1_iff (t : Fin cfg0.N) : k0_cond1 (grid0.coords t) = 1#1 ↔ t.val = 0 := by
  revert t; exact (by decide +kernel : ∀ t : Fin grid0.N, k0_cond1 (grid0.coords t) = 1#1 ↔ t.val = 0)
theorem cond2_iff (t : Fin cfg0.N) : k0_cond2 (grid0.coords t) = 1#1 ↔ t.val < 16 := by
  revert t; exact (by decide +kernel : ∀ t : Fin grid0.N, k0_cond2 (grid0.coords t) = 1#1 ↔ t.val < 16)
theorem cond3_iff (t : Fin cfg0.N) : k0_cond3 (grid0.coords t) = 1#1 ↔ 2 ≤ t.val := by
  revert t; exact (by decide +kernel : ∀ t : Fin grid0.N, k0_cond3 (grid0.coords t) = 1#1 ↔ 2 ≤ t.val)
theorem cond4_iff (t : Fin cfg0.N) : k0_cond4 (grid0.coords t) = 1#1 ↔ 1 ≤ t.val := by
  revert t; exact (by decide +kernel : ∀ t : Fin grid0.N, k0_cond4 (grid0.coords t) = 1#1 ↔ 1 ≤ t.val)
theorem cond5_iff (t : Fin cfg0.N) : k0_cond5 (grid0.coords t) = 1#1 ↔ t.val ≤ 14 := by
  revert t; exact (by decide +kernel : ∀ t : Fin grid0.N, k0_cond5 (grid0.coords t) = 1#1 ↔ t.val ≤ 14)
theorem atEnd_iff (t : Fin cfg0.N) : atEnd (grid0.coords t) = 1#1 ↔ t.val = 16 := by
  revert t; exact (by decide +kernel : ∀ t : Fin grid0.N, atEnd (grid0.coords t) = 1#1 ↔ t.val = 16)
theorem t_le (t : Fin cfg0.N) : t.val ≤ 16 := Nat.lt_succ_iff.mp (t.isLt.trans_eq N_0)

/-! ## The states -/

variable (m : (ℓ : Loc nD τ sig) → Buf (Elt F) ℓ) (c : Dev nD)

/-- A slot of the device's own products at contents not chosen. -/
def mineAny (s : Fin 2) : sProp 𝕄 := iprop(∃ X, owns (c : Thread nD τ) (mineM s) fullShare X)
/-- The weight block's copy at contents not chosen. -/
def woAny : sProp 𝕄 := iprop(∃ X, owns (c : Thread nD τ) B7 fullShare X)
/-- The debt, whatever waits are recorded. -/
def OW (a b : ℕ) : sProp 𝕄 := iprop(∃ W, owes (c : Thread nD τ) (Ow c a b) W)

/-- The sending side: `w` copies waited for and as many credits taken, `a` chunks sent, and the send slots
    of the chunks from `h` on that were never used. -/
def SND (w a h : ℕ) : sProp 𝕄 :=
  iprop(sndAt (F := F) c w ∗ sndAt (F := F) c (w + 1)
    ∗ bigSep (Finset.Ico w a) (fun j => cred (tallyAt (sndCell c (par j)) 0 N))
    ∗ crdSt (F := F) c w ∗ bigSep (Finset.Ico w 14) (fun k => cred (tallyAt (crdCell c) k 1))
    ∗ bigSep (Finset.Ico a 16) (sendKit (F := F) c)
    ∗ bigSep (Finset.Ico h 2) (fun j => sndAny (F := F) c (par j))
    ∗ frees (F := F) (pr c) 2)

/-- The receiving side after `r` chunks: every slot read has been given back, but for the last two. -/
def RCV (r : ℕ) : sProp 𝕄 :=
  iprop(rcvAt (F := F) c r ∗ rcvAt (F := F) c (r + 1)
    ∗ bigSep (Finset.Ico r 16) (fun j => cred (tallyAt (rcvCell c (par j)) j N))
    ∗ rdAt (F := F) c (min r 14) ∗ rdAt (F := F) c (min r 14 + 1)
    ∗ bigSep (Finset.Ico (min r 14) r) (fun j => rcvAny (F := F) c (par j))
    ∗ frees (F := F) c (min r 14 + 2)
    ∗ bigSep (Finset.Ico r 14) (fun k => dutyTok ER (crdCell (pr c)) 0 k)
    ∗ reached ER (crdCell (pr c)) 0)

/-- The slot of the device's own product that the point reads. -/
def mineSt (t : ℕ) : sProp 𝕄 :=
  if 1 ≤ t ∧ t ≤ 16 then owns (c : Thread nD τ) (mineM (par (t + 1))) fullShare (mineV m c (t - 1)) else mineAny c (par (t + 1))

theorem mineSt_any (t : ℕ) : mineSt m c t ⊢ mineAny c (par (t + 1)) := by
  unfold mineSt
  split
  · unfold mineAny
    iintro H
    iexists _
    iexact H
  · exact .rfl

variable {m} {κ : GSem nD τ sig → ℕ} {ιs : K → ℕ} {k : KProg F} {Q : PUnit → sProp (MT nD τ sig ℕ (Elt F) ℕ UU ℕ)}

/-! ## The waits before a slot is used again -/

theorem segW_t (t : Fin cfg0.N) (h2 : k0_cond2 (grid0.coords t) = 1#1) :
    iprop(know m κ ιs ∗ SND c (t.val - 2) t.val t.val ∗ OW c t.val (t.val - 1))
      ⊢ iprop(((SND c (t.val - 1) t.val (t.val + 1) ∗ sndAny c (par t.val) ∗ OW c t.val (t.val - 1)) -∗ Wp c k Q)
        -∗ Wp c (segW (grid0.coords t) h2 k) Q) := by
  have ht := (cond2_iff t).mp h2
  unfold segW
  by_cases h3 : k0_cond3 (grid0.coords t) = 1#1
  · rw [dif_pos h3]
    obtain ⟨w, hw⟩ : ∃ w, t.val = w + 2 := ⟨t.val - 2, by have := (cond3_iff t).mp h3; omega⟩
    have hp : par t.val = par w := by rw [hw, par_two]
    have e1 : t.val - 2 = w := by omega
    have e2 : t.val - 1 = w + 1 := by omega
    rw [e1, e2]
    simp only [semWaitWord, Prog.lift, Prog.bind_op, Prog.bind_ret]
    unfold SND OW
    iintro ⟨#Hk, ⟨Hs0, Hs1, Hcs, Hcrd, Hcc, Hkit, Hh, #Hf⟩, ⟨%W, HO⟩⟩ Hc
    ihave Hcs := (run_take (show w < t.val by omega)) $$ Hcs
    icases Hcs with ⟨Hc0, Hcs⟩
    ihave Hcc := (run_take (show w < 14 by omega)) $$ Hcc
    icases Hcc with ⟨Hd0, Hcc⟩
    iapply (op_snd_wait (m := m) (κ := κ) (ιs := ιs) c (j := w) (a := t.val) (b := w + 1) (by omega) ((off1 t).trans (by rw [hp]))) $$ [Hs0 Hc0 HO]
    · isplitr; · iexact Hk
      isplitl [Hs0]; · iexact Hs0
      isplitl [Hc0]; · iexact Hc0
      iexact HO
    iintro ⟨Hs2, Hsl, HO⟩
    iapply (op_crd_wait (m := m) (κ := κ) (ιs := ιs) c (n := w) (a := t.val) (b := w + 1) (by omega) (by omega) (by omega)) $$ [Hcrd Hd0 HO]
    · isplitr; · iexact Hk
      isplitl [Hcrd]; · iexact Hcrd
      isplitl [Hd0]; · iexact Hd0
      iexact HO
    iintro ⟨Hcrd, HO⟩
    iapply Hc
    isplitr [Hsl HO]
    · isplitl [Hs1]; · iexact Hs1
      isplitl [Hs2]; · iexact Hs2
      isplitl [Hcs]; · iexact Hcs
      isplitl [Hcrd]; · iexact Hcrd
      isplitl [Hcc]; · iexact Hcc
      isplitl [Hkit]; · iexact Hkit
      isplitl [Hh]; · iapply (run_none (show 2 ≤ t.val by omega) (show 2 ≤ t.val + 1 by omega)); iexact Hh
      iexact Hf
    isplitl [Hsl]; · rw [hp]; iexact Hsl
    iexists _; iexact HO
  · rw [dif_neg h3]
    have hlt : t.val < 2 := by have := (cond3_iff t).not.mp h3; omega
    have e : t.val - 2 = t.val - 1 := by omega
    rw [e]
    unfold SND
    iintro ⟨#Hk, ⟨Hs0, Hs1, Hcs, Hcrd, Hcc, Hkit, Hh, #Hf⟩, HO⟩ Hc
    ihave Hh := (run_take hlt) $$ Hh
    icases Hh with ⟨Hsl, Hh⟩
    iapply Hc
    isplitr [Hsl HO]
    · isplitl [Hs0]; · iexact Hs0
      isplitl [Hs1]; · iexact Hs1
      isplitl [Hcs]; · iexact Hcs
      isplitl [Hcrd]; · iexact Hcrd
      isplitl [Hcc]; · iexact Hcc
      isplitl [Hkit]; · iexact Hkit
      isplitl [Hh]; · iexact Hh
      iexact Hf
    isplitl [Hsl]; · iexact Hsl
    iexact HO

/-! ## Sending a chunk -/

/-- The chunk of the point may be written on the partner. -/
theorem may_send {t h : ℕ} : SND c (t - 1) t h ⊢ free (F := F) (pr c) t := by
  unfold SND
  iintro ⟨-, -, -, Hcrd, -, -, -, Hf⟩
  by_cases h2 : t < 2
  · iapply (frees_elim (pr c) h2) $$ Hf
  · obtain ⟨w, rfl⟩ : ∃ w, t = w + 2 := ⟨t - 2, by omega⟩
    rw [show w + 2 - 1 = w + 1 from rfl]
    iapply ((crd_get c w).trans (frees_elim (pr c) (show w + 2 < w + 3 by omega))) $$ Hcrd
/-- Its round on the device's own semaphore is reached. -/
theorem may_raise {t h : ℕ} : SND (F := F) c (t - 1) t h ⊢ reached ER (sndCell c (par t)) (t / 2) := by
  unfold SND
  iintro ⟨Ha, Hb, -⟩
  by_cases h2 : t = 0
  · subst h2
    unfold sndAt
    icases Ha with ⟨-, Ha⟩
    iexact Ha
  · obtain ⟨w, rfl⟩ : ∃ w, t = w + 1 := ⟨t - 1, by omega⟩
    unfold sndAt
    icases Hb with ⟨-, Hb⟩
    iexact Hb

theorem own_any (s : Fin 2) : sndAny (F := F) c s ⊢ iprop(∃ X, owns (c : Thread nD τ) (sndM s) fullShare X) := by
  show iprop(∃ f, (sndM s).view.loc (c : Thread nD τ) ↦[(sndM s).view.set]{fullShare} f) ⊢ _
  unfold owns
  iintro ⟨%f, H⟩
  iexists _
  iexists f
  isplitr; · ipureintro; rfl
  iexact H
theorem rcv_any (s : Fin 2) {X : S1x1024x512.Idx → Elt F .bf16} : owns (c : Thread nD τ) (rcvM s) fullShare X ⊢ rcvAny (F := F) c s := by
  show _ ⊢ iprop(∃ f, (rcvM s).view.loc (c : Thread nD τ) ↦[(rcvM s).view.set]{fullShare} f)
  unfold owns
  iintro ⟨%f, -, H⟩
  iexists f
  iexact H

theorem zero2 : (![0, 0] : Fin 2 → ℕ) = fun _ => 0 := by funext a; revert a; decide
theorem zero3 : (![0, 0, 0] : Fin 3 → ℕ) = fun _ => 0 := by funext a; revert a; decide

theorem segS_t (t : Fin cfg0.N) (h2 : k0_cond2 (grid0.coords t) = 1#1) {b : ℕ} :
    iprop(know m κ ιs ∗ SND c (t.val - 1) t.val (t.val + 1) ∗ sndAny c (par t.val) ∗ woAny c ∗ OW c t.val b
        ∗ owns (c : Thread nD τ) (st0_0 t) fullShare (xB m c) ∗ owns (c : Thread nD τ) (st0_1 t) fullShare (wB m c t.val))
      ⊢ iprop(((SND c (t.val - 1) (t.val + 1) (t.val + 1) ∗ owns (c : Thread nD τ) B7 fullShare (k0_pay3 (wB m c t.val)) ∗ OW c (t.val + 1) b
        ∗ owns (c : Thread nD τ) (st0_0 t) fullShare (xB m c) ∗ owns (c : Thread nD τ) (st0_1 t) fullShare (wB m c t.val)) -∗ Wp c k Q)
        -∗ Wp c (segS t c h2 k) Q) := by
  have ht := (cond2_iff t).mp h2
  unfold segS
  simp only [Prog.lift, Prog.bind_op, Prog.bind_ret]
  iintro ⟨#Hk, HS, Hsl, Hwo, HO, Hx, Hw⟩ Hc
  ihave ⟨#Hfree, HS⟩ := (persistent_entails_right (may_send c)) $$ HS
  ihave ⟨#Hrch, HS⟩ := (persistent_entails_right (may_raise c)) $$ HS
  unfold woAny OW
  icases Hwo with ⟨%Y, Hwo⟩
  icases HO with ⟨%W, HO⟩
  iapply (op_load_all c (st0_1 t) zero2) $$ Hw
  iintro Hw
  iapply (op_load_all c B7 zero2) $$ Hwo
  iintro Hwo
  iapply (op_store_all c B7 zero2) $$ Hwo
  iintro Hwo
  iapply (op_load_part c (st0_0 t) (off3 c) (p' := rows_inb (other c))) $$ Hx
  iintro Hx
  iapply (op_load_all c B7 zero2) $$ Hwo
  iintro Hwo
  ihave ⟨%Z, Hsl⟩ := (own_any c (par t.val)) $$ Hsl
  iapply (op_load_slice c B4 (off4 t) (p' := slot_inb (par t.val))) $$ Hsl
  iintro Hsl
  iapply (op_store_slice c B4 (off4 t) (p' := slot_inb (par t.val))) $$ Hsl
  iintro Hsl
  unfold SND
  icases HS with ⟨Hs0, Hs1, Hcs, Hcrd, Hcc, Hkit, Hh, #Hf⟩
  ihave Hkit := (run_take ht) $$ Hkit
  icases Hkit with ⟨Hkit0, Hkit⟩
  iapply (op_send (m := m) (κ := κ) (ιs := ιs) c (j := t.val) (b := b) ht (off6 t) (off5 t) (dev2 c)) $$ [Hkit0 Hsl HO]
  · isplitr; · iexact Hk
    isplitr; · iexact Hfree
    isplitl [Hkit0]; · iexact Hkit0
    isplitr; · iexact Hrch
    isplitl [Hsl]; · iexact Hsl
    iexact HO
  iintro ⟨Hcr, HO⟩
  iapply Hc
  isplitr [Hwo HO Hx Hw]
  · isplitl [Hs0]; · iexact Hs0
    isplitl [Hs1]; · iexact Hs1
    isplitl [Hcs Hcr]
    · iapply (run_snoc (Φ := fun j => cred (tallyAt (sndCell c (par j)) 0 N)) (show t.val - 1 ≤ t.val by omega))
      isplitl [Hcr]; · iexact Hcr
      iexact Hcs
    isplitl [Hcrd]; · iexact Hcrd
    isplitl [Hcc]; · iexact Hcc
    isplitl [Hkit]; · iexact Hkit
    isplitl [Hh]; · iexact Hh
    iexact Hf
  isplitl [Hwo]; · iexact Hwo
  isplitl [HO]; · iexists _; iexact HO
  isplitl [Hx]; · iexact Hx
  iexact Hw

/-! ## The device's own product -/

theorem segM_t (t : Fin cfg0.N) (h2 : k0_cond2 (grid0.coords t) = 1#1) :
    iprop(owns (c : Thread nD τ) B7 fullShare (k0_pay3 (wB m c t.val)) ∗ mineAny c (par t.val) ∗ owns (c : Thread nD τ) (st0_0 t) fullShare (xB m c))
      ⊢ iprop(((owns (c : Thread nD τ) B7 fullShare (k0_pay3 (wB m c t.val)) ∗ owns (c : Thread nD τ) (mineM (par t.val)) fullShare (mineV m c t.val)
          ∗ owns (c : Thread nD τ) (st0_0 t) fullShare (xB m c)) -∗ Wp c k Q)
        -∗ Wp c (segM t c h2 k) Q) := by
  unfold segM
  simp only [Prog.lift, Prog.bind_op, Prog.bind_ret]
  unfold mineAny
  iintro ⟨Hwo, ⟨%X, Hm⟩, Hx⟩ Hc
  iapply (op_load_part c (st0_0 t) (off7 c) (p' := rows_inb (own c))) $$ Hx
  iintro Hx
  iapply (op_load_all c B7 zero2) $$ Hwo
  iintro Hwo
  iapply (op_load_slice c B6 (off4 t) (p' := slot_inb (par t.val))) $$ Hm
  iintro Hm
  iapply (op_store_slice c B6 (off4 t) (p' := slot_inb (par t.val))) $$ Hm
  iintro Hm
  iapply Hc
  isplitl [Hwo]; · iexact Hwo
  isplitl [Hm]; · iexact Hm
  iexact Hx

end Cert.KernelIdeal.Pf

end
-- ==== Proof.Steps.lean ====
/- The steps of the body between the states at the grid points. -/
module

public import proofs.«01_k».proof.Proof.Body

@[expose] public section

set_option maxRecDepth 16384

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- Before point `t`'s product. -/
def stA (t : ℕ) : sProp 𝕄 :=
  iprop(SND (F := F) c (min (t - 2) 14) (min t 16) (min t 16) ∗ RCV (F := F) c (t - 1) ∗ mineAny (F := F) c (par t) ∗ mineSt m c t
    ∗ woAny (F := F) c ∗ semVal (barCell c) 0)
/-- After point `t`'s product. -/
def stB (t : ℕ) : sProp 𝕄 :=
  iprop(SND (F := F) c (min (t - 1) 14) (min (t + 1) 16) (min (t + 1) 16) ∗ RCV (F := F) c (t - 1) ∗ mineSt m c t ∗ mineSt m c (t + 1)
    ∗ woAny (F := F) c ∗ semVal (barCell c) 0)

variable (F) in
/-- After the last point: the scoped semaphores are at zero again and every buffer is in hand. -/
def stEnd : sProp 𝕄 :=
  iprop((semVal (crdCell c) 0 ∗ semVal (sndCell c 0) 0 ∗ semVal (sndCell c 1) 0 ∗ semVal (rcvCell c 0) 0 ∗ semVal (rcvCell c 1) 0)
    ∗ (sndAny (F := F) c 0 ∗ sndAny (F := F) c 1) ∗ (rcvAny (F := F) c 0 ∗ rcvAny (F := F) c 1) ∗ (mineAny (F := F) c 0 ∗ mineAny (F := F) c 1)
    ∗ woAny (F := F) c ∗ semVal (barCell c) 0)

variable {m} {κ : GSem nD τ sig → ℕ} {ιs : K → ℕ} {k : KProg F} {Q : PUnit → sProp (MT nD τ sig ℕ (Elt F) ℕ UU ℕ)}

theorem wp_done : Q ⟨⟩ ⊢ Wp c (.ret ⟨⟩) Q := by
  unfold Wp
  rw [wp_ret]
  iintro H
  imodintro
  iexact H

/-! ## The products -/

theorem segB_t (t : Fin cfg0.N) :
    iprop(know m κ ιs ∗ stA m c t.val ∗ OW c (min t.val 16) (t.val - 1)
        ∗ owns (c : Thread nD τ) (st0_0 t) fullShare (xB m c) ∗ owns (c : Thread nD τ) (st0_1 t) fullShare (wB m c t.val))
      ⊢ iprop(((stB m c t.val ∗ OW c (min (t.val + 1) 16) (t.val - 1)
          ∗ owns (c : Thread nD τ) (st0_0 t) fullShare (xB m c) ∗ owns (c : Thread nD τ) (st0_1 t) fullShare (wB m c t.val)) -∗ Wp c k Q)
        -∗ Wp c (segB t c k) Q) := by
  have hle := t_le t
  unfold segB stA stB
  by_cases h2 : k0_cond2 (grid0.coords t) = 1#1
  · have ht := (cond2_iff t).mp h2
    rw [dif_pos h2, show min (t.val - 2) 14 = t.val - 2 by omega, show min t.val 16 = t.val by omega,
      show min (t.val - 1) 14 = t.val - 1 by omega, show min (t.val + 1) 16 = t.val + 1 by omega]
    unfold Wp
    rw [wp_bind]
    show _ ⊢ iprop((_ -∗ Wp c k Q) -∗ Wp c (segW (grid0.coords t) h2 (segS t c h2 (.ret ⟨⟩))) (fun _ => Wp c (segM t c h2 k) Q))
    iintro ⟨#Hk, ⟨HS, HR, Hm, Hm', Hwo, Hb⟩, HO, Hx, Hw⟩ Hc
    iapply (segW_t (m := m) (κ := κ) (ιs := ιs) c t h2) $$ [HS HO]
    · isplitr; · iexact Hk
      isplitl [HS]; · iexact HS
      iexact HO
    iintro ⟨HS, Hsl, HO⟩
    iapply (segS_t (m := m) (κ := κ) (ιs := ιs) c t h2) $$ [HS Hsl HO Hwo Hx Hw]
    · isplitr; · iexact Hk
      isplitl [HS]; · iexact HS
      isplitl [Hsl]; · iexact Hsl
      isplitl [Hwo]; · iexact Hwo
      isplitl [HO]; · iexact HO
      isplitl [Hx]; · iexact Hx
      iexact Hw
    iintro ⟨HS, Hwo, HO, Hx, Hw⟩
    iapply (wp_done c)
    iapply (segM_t (m := m) c t h2) $$ [Hwo Hm Hx]
    · isplitl [Hwo]; · iexact Hwo
      isplitl [Hm]; · iexact Hm
      iexact Hx
    iintro ⟨Hwo, Hm, Hx⟩
    iapply Hc
    isplitr [HO Hx Hw]
    · isplitl [HS]; · iexact HS
      isplitl [HR]; · iexact HR
      isplitl [Hm']; · iexact Hm'
      isplitl [Hm]
      · unfold mineSt
        rw [if_pos (by omega), par_two]
        iexact Hm
      isplitl [Hwo]; · unfold woAny; iexists _; iexact Hwo
      iexact Hb
    isplitl [HO]; · iexact HO
    isplitl [Hx]; · iexact Hx
    iexact Hw
  · have ht : t.val = 16 := by have := (cond2_iff t).not.mp h2; omega
    rw [dif_neg h2, ht]
    iintro ⟨#Hk, ⟨HS, HR, Hm, Hm', Hwo, Hb⟩, HO, Hx, Hw⟩ Hc
    iapply Hc
    isplitr [HO Hx Hw]
    · isplitl [HS]; · iexact HS
      isplitl [HR]; · iexact HR
      isplitl [Hm']; · iexact Hm'
      isplitl [Hm]
      · unfold mineSt
        rw [if_neg (by omega)]
        iexact Hm
      isplitl [Hwo]; · iexact Hwo
      iexact Hb
    isplitl [HO]; · iexact HO
    isplitl [Hx]; · iexact Hx
    iexact Hw

/-! ## The chunk before -/

/-- A receive slot is given back, or kept when its last chunk is read; in the first case the credit is signalled. -/
theorem segG_t (t : Fin cfg0.N) (h4 : k0_cond4 (grid0.coords t) = 1#1) {r a : ℕ} (hr : t.val = r + 1) :
    iprop(know m κ ιs ∗ (rcvAt c (r + 2) ∗ rcvAny c (par r)
          ∗ rdAt (F := F) c (min r 14) ∗ rdAt (F := F) c (min r 14 + 1)
          ∗ bigSep (Finset.Ico (min r 14) r) (fun j => rcvAny (F := F) c (par j))
          ∗ frees (F := F) c (min r 14 + 2)
          ∗ bigSep (Finset.Ico r 14) (fun k => dutyTok ER (crdCell (pr c)) 0 k)
          ∗ reached ER (crdCell (pr c)) 0) ∗ OW c a r)
      ⊢ iprop((((rcvAt c (r + 2)
          ∗ rdAt (F := F) c (min (r + 1) 14) ∗ rdAt (F := F) c (min (r + 1) 14 + 1)
          ∗ bigSep (Finset.Ico (min (r + 1) 14) (r + 1)) (fun j => rcvAny (F := F) c (par j))
          ∗ frees (F := F) c (min (r + 1) 14 + 2)
          ∗ bigSep (Finset.Ico (r + 1) 14) (fun k => dutyTok ER (crdCell (pr c)) 0 k)
          ∗ reached ER (crdCell (pr c)) 0) ∗ OW c a (r + 1)) -∗ Wp c k Q)
        -∗ Wp c (segG (grid0.coords t) c h4 k) Q) := by
  have hle := t_le t
  unfold segG
  by_cases h5 : k0_cond5 (grid0.coords t) = 1#1
  · have ht : r < 14 := by have := (cond5_iff t).mp h5; omega
    rw [dif_pos h5, show min r 14 = r by omega, show min (r + 1) 14 = r + 1 by omega]
    simp only [semSignalWord, Prog.lift, Prog.bind_op, Prog.bind_ret]
    iintro ⟨#Hk, ⟨HR, Hsl, Hr0, Hr1, -, #Hf, Ht, #Hrc⟩, HO⟩ Hc
    unfold OW
    icases HO with ⟨%W, HO⟩
    ihave Ht := (run_take ht) $$ Ht
    icases Ht with ⟨Ht0, Ht⟩
    ihave #HI := (know_slot (c, par r)) $$ Hk
    unfold rdAt
    imod (slot_release ES (Set.mem_univ _) (rcv_once c (par r)) (r / 2 + 1)) $$ [Hr0 Hsl] with ⟨Hr0, #Hrel⟩
    · isplitr; · iexact HI
      isplitl [Hr0]; · iexact Hr0
      iexact Hsl
    ihave #Hf3 := (frees_succ c (r + 2)) $$ [HR]
    · isplitr; · iexact Hf
      unfold free rcvAt
      icases HR with ⟨-, #Hrr⟩
      rw [par_two, half_two]
      isplitr; · iexact Hrel
      iexact Hrr
    iapply (op_crd_signal (m := m) (κ := κ) (ιs := ιs) c (a := a) (b := r) ht (dev3 c)) $$ [Ht0 HO]
    · isplitr; · iexact Hk
      isplitl [Ht0]; · iexact Ht0
      isplitr; · iexact Hrc
      isplitr; · iexact Hf3
      iexact HO
    iintro HO
    iapply Hc
    isplitr [HO]
    · isplitl [HR]; · iexact HR
      isplitl [Hr1]; · iexact Hr1
      isplitl [Hr0]; · rw [par_two, half_two]; iexact Hr0
      isplitr; · rw [Finset.Ico_self]; iempintro
      isplitr; · iexact Hf3
      isplitl [Ht]; · iexact Ht
      iexact Hrc
    iexists _; iexact HO
  · have ht : 14 ≤ r := by have := (cond5_iff t).not.mp h5; omega
    rw [dif_neg h5, show min r 14 = 14 by omega, show min (r + 1) 14 = 14 by omega]
    iintro ⟨#Hk, ⟨HR, Hsl, Hr0, Hr1, Hh, #Hf, Ht, #Hrc⟩, HO⟩ Hc
    iapply Hc
    isplitr [HO]
    · isplitl [HR]; · iexact HR
      isplitl [Hr0]; · iexact Hr0
      isplitl [Hr1]; · iexact Hr1
      isplitl [Hsl Hh]
      · iapply (run_snoc (Φ := fun j => rcvAny (F := F) c (par j)) ht)
        isplitl [Hsl]; · iexact Hsl
        iexact Hh
      isplitr; · iexact Hf
      isplitl [Ht]; · iapply (run_none (Φ := fun k => dutyTok ER (crdCell (pr c)) 0 k) (show 14 ≤ r from ht) (show 14 ≤ r + 1 by omega)); iexact Ht
      iexact Hrc
    unfold OW Ow
    rw [owedC_nil c ht, owedC_nil c (show 14 ≤ r + 1 by omega)]
    iexact HO

theorem segC_pos (t : Fin cfg0.N) (h4 : 1 ≤ t.val) :
    iprop(know m κ ιs ∗ stB m c t.val ∗ OW c (min (t.val + 1) 16) (t.val - 1) ∗ (∃ X, owns (c : Thread nD τ) (st0_2 t) fullShare X))
      ⊢ iprop(((stA m c (t.val + 1) ∗ OW c (min (t.val + 1) 16) t.val ∗ owns (c : Thread nD τ) (st0_2 t) fullShare (outV m c (t.val - 1))) -∗ Wp c k Q)
        -∗ Wp c (segC t c k) Q) := by
  have hle := t_le t
  obtain ⟨r, hr⟩ : ∃ r, t.val = r + 1 := ⟨t.val - 1, by omega⟩
  have hp : par (t.val + 1) = par r := by rw [hr, par_two]
  unfold segC
  rw [dif_pos ((cond4_iff t).mpr h4)]
  simp only [Prog.lift, Prog.bind_op, Prog.bind_ret]
  unfold stB stA
  rw [show mineSt m c t.val = owns (c : Thread nD τ) (mineM (par r)) fullShare (mineV m c r) by
      unfold mineSt; rw [if_pos ⟨h4, hle⟩, hp, hr]; rfl,
    show t.val - 1 = r by omega, show t.val + 1 - 1 = r + 1 by omega, show t.val + 1 - 2 = r by omega, hp]
  unfold RCV
  iintro ⟨#Hk, ⟨HS, ⟨Hr0, Hr1, Hcr, Hd0, Hd1, Hh, Hf, Ht, Hrc⟩, Hm, Hm', Hwo, Hb⟩, HO, ⟨%X, Ho⟩⟩ Hc
  unfold OW
  icases HO with ⟨%W, HO⟩
  ihave Hcr := (run_take (show r < 16 by omega)) $$ Hcr
  icases Hcr with ⟨Hcr0, Hcr⟩
  iapply (op_rcv_wait (m := m) (κ := κ) (ιs := ιs) c (j := r) (a := min (t.val + 1) 16) (b := r) (by omega) (by omega) le_rfl
    ((off8 t).trans (by rw [hp]))) $$ [Hr0 Hcr0 HO]
  · isplitr; · iexact Hk
    isplitl [Hr0]; · iexact Hr0
    isplitl [Hcr0]; · iexact Hcr0
    iexact HO
  iintro ⟨Hr2, Hrv, HO⟩
  iapply (op_load_slice c B6 ((off10 t).trans (by rw [hp])) (p' := slot_inb (par r))) $$ Hm
  iintro Hm
  iapply (op_load_slice c B5 ((off10 t).trans (by rw [hp])) (p' := slot_inb (par r))) $$ Hrv
  iintro Hrv
  iapply (op_load_all c (st0_2 t) zero3) $$ Ho
  iintro Ho
  iapply (op_store_all c (st0_2 t) zero3) $$ Ho
  iintro Ho
  ihave Hrv := (rcv_any c (par r)) $$ Hrv
  iapply (segG_t (m := m) (κ := κ) (ιs := ιs) c t ((cond4_iff t).mpr h4) (a := min (t.val + 1) 16) hr) $$ [Hr2 Hrv Hd0 Hd1 Hh Hf Ht Hrc HO]
  · isplitr; · iexact Hk
    isplitr [HO]
    · isplitl [Hr2]; · iexact Hr2
      isplitl [Hrv]; · iexact Hrv
      isplitl [Hd0]; · iexact Hd0
      isplitl [Hd1]; · iexact Hd1
      isplitl [Hh]; · iexact Hh
      isplitl [Hf]; · iexact Hf
      isplitl [Ht]; · iexact Ht
      iexact Hrc
    unfold OW
    iexists _; iexact HO
  iintro ⟨⟨Hr2, Hd0, Hd1, Hh, Hf, Ht, Hrc⟩, HO⟩
  iapply Hc
  isplitr [HO Ho]
  · isplitl [HS]; · iexact HS
    isplitl [Hr1 Hr2 Hcr Hd0 Hd1 Hh Hf Ht Hrc]
    · isplitl [Hr1]; · iexact Hr1
      isplitl [Hr2]; · iexact Hr2
      isplitl [Hcr]; · iexact Hcr
      isplitl [Hd0]; · iexact Hd0
      isplitl [Hd1]; · iexact Hd1
      isplitl [Hh]; · iexact Hh
      isplitl [Hf]; · iexact Hf
      isplitl [Ht]; · iexact Ht
      iexact Hrc
    isplitl [Hm]
    · unfold mineAny; iexists _; iexact Hm
    isplitl [Hm']; · iexact Hm'
    isplitl [Hwo]; · iexact Hwo
    iexact Hb
  isplitl [HO]
  · rw [hr]; unfold OW; iexact HO
  iexact Ho

theorem segC_zero (t : Fin cfg0.N) (h4 : t.val = 0) :
    iprop(stB m c t.val ∗ OW c (min (t.val + 1) 16) (t.val - 1))
      ⊢ iprop(((stA m c (t.val + 1) ∗ OW c (min (t.val + 1) 16) t.val) -∗ Wp c k Q)
        -∗ Wp c (segC t c k) Q) := by
  unfold segC
  rw [dif_neg (by rw [cond4_iff]; omega), h4]
  unfold stB stA
  iintro ⟨⟨HS, HR, Hm, Hm', Hwo, Hb⟩, HO⟩ Hc
  ihave Hm := (mineSt_any m c 0) $$ Hm
  iapply Hc
  isplitr [HO]
  · isplitl [HS]; · iexact HS
    isplitl [HR]; · iexact HR
    isplitl [Hm]; · iexact Hm
    isplitl [Hm']; · iexact Hm'
    isplitl [Hwo]; · iexact Hwo
    iexact Hb
  iexact HO

/-! ## The barrier -/

variable (F) in
/-- At the start: nothing sent or received, both receive slots in hand. -/
def stS : sProp 𝕄 :=
  iprop((sndAt (F := F) c 0 ∗ sndAt (F := F) c 1 ∗ crdSt (F := F) c 0 ∗ bigSep (Finset.Ico 0 14) (fun k => cred (tallyAt (crdCell c) k 1))
      ∗ bigSep (Finset.Ico 0 16) (sendKit (F := F) c) ∗ bigSep (Finset.Ico 0 2) (fun j => sndAny (F := F) c (par j)))
    ∗ (rcvAt (F := F) c 0 ∗ rcvAt (F := F) c 1 ∗ bigSep (Finset.Ico 0 16) (fun j => cred (tallyAt (rcvCell c (par j)) j N))
      ∗ (readerAt ES (c, par 0) 0 ∗ rcvAny (F := F) c (par 0)) ∗ (readerAt ES (c, par 1) 0 ∗ rcvAny (F := F) c (par 1))
      ∗ bigSep (Finset.Ico 0 14) (fun k => dutyTok ER (crdCell (pr c)) 0 k) ∗ reached ER (crdCell c) 0)
    ∗ (mineAny (F := F) c (par 0) ∗ mineAny (F := F) c (par 1) ∗ woAny (F := F) c)
    ∗ (atPos ER (barCell c) 0 ∅ 0 ∗ cred (tallyAt (barCell c) 0 1) ∗ dutyTok ER (barCell (pr c)) 0 0 ∗ reached ER (barCell (pr c)) 0))

/-- What is owed at the start: the copies, the credits, the barrier. -/
def owS : CellTallies nD τ sig ℕ := Ow c 0 0 + tallyAt (barCell (pr c)) 0 1

/-- A receive slot handed over for its first chunk. -/
theorem first_free {j : ℕ} (hj : j / 2 = 0) :
    iprop(know m κ ιs ∗ rcvAt (F := F) c j ∗ readerAt ES (c, par j) 0 ∗ rcvAny (F := F) c (par j))
      ⊢ (|={Set.univ}=> (rcvAt (F := F) c j ∗ rdAt (F := F) c j ∗ free (F := F) c j) : sProp 𝕄) := by
  unfold rcvAt rdAt free
  rw [hj]
  iintro ⟨#Hk, ⟨Ha, #Hr⟩, Hrd, Hs⟩
  ihave #HI := (know_slot (c, par j)) $$ Hk
  imod (slot_release ES (Set.mem_univ _) (rcv_once c (par j)) 0) $$ [Hrd Hs] with ⟨Hrd, #Hrel⟩
  · isplitr; · iexact HI
    isplitl [Hrd]; · iexact Hrd
    iexact Hs
  imodintro
  isplitl [Ha]
  · isplitl [Ha]; · iexact Ha
    iexact Hr
  isplitl [Hrd]; · iexact Hrd
  isplitr; · iexact Hrel
  iexact Hr

theorem segA_zero (t : Fin cfg0.N) (h1 : t.val = 0) :
    iprop(know m κ ιs ∗ stS F c ∗ (∃ W, owes (c : Thread nD τ) (owS c) W))
      ⊢ iprop(((stA m c 0 ∗ OW c 0 0) -∗ Wp c k Q) -∗ Wp c (segA (grid0.coords t) c k) Q) := by
  unfold segA
  rw [dif_pos ((cond1_iff t).mpr h1)]
  simp only [semSignalWord, semWaitWord, Prog.lift, Prog.bind_op, Prog.bind_ret]
  unfold stS owS
  iintro ⟨#Hk, ⟨⟨Hs0, Hs1, Hcrd, Hcc, Hkit, Hh⟩, ⟨Hr0, Hr1, Hcr, ⟨Hd0, Hv0⟩, ⟨Hd1, Hv1⟩, Ht, #Hrc⟩, ⟨Hm0, Hm1, Hwo⟩, ⟨Hbar, Hbc, Hbt, #Hbr⟩⟩, ⟨%W, HO⟩⟩ Hc
  imod (first_free c (j := 0) rfl) $$ [Hr0 Hd0 Hv0] with ⟨Hr0, Hd0, #Hf0⟩
  · isplitr; · iexact Hk
    isplitl [Hr0]; · iexact Hr0
    isplitl [Hd0]; · iexact Hd0
    iexact Hv0
  imod (first_free c (j := 1) rfl) $$ [Hr1 Hd1 Hv1] with ⟨Hr1, Hd1, #Hf1⟩
  · isplitr; · iexact Hk
    isplitl [Hr1]; · iexact Hr1
    isplitl [Hd1]; · iexact Hd1
    iexact Hv1
  ihave #Hf := ((frees_succ (F := F) c 0)) $$ []
  · isplitr; · unfold frees; rw [Finset.range_zero]; iempintro
    iexact Hf0
  ihave #Hf2 := ((frees_succ (F := F) c 1)) $$ []
  · isplitr; · iexact Hf
    iexact Hf1
  rw [show (⟨k0_dev1 c, k0_dev1_lt (grid0.coords t) c ((cond1_iff t).mpr h1)⟩ : Dev nD) = pr c from dev1 c]
  iapply (Rounds.wp_signal 𝒱₀ ER (Rd m) (c : Thread nD τ) none (dst := ((pr c : Dev nD) : Thread nD τ)) (sem := barS) (r := 0) (d := 0) (k' := 1) (κ := κ (barCell (pr c)))
      (by rw [duties_bar]; exact Finset.mem_singleton_self _) (amount_bar m _ _ _) 0 (Ow c 0 0) rfl) $$ [HO Hbt]
  · isplitr; · iapply (know_bar (pr c)) $$ Hk
    isplitl [HO]; · iexact HO
    isplitl [Hbt]; · iexact Hbt
    isplitr
    · rw [pay_bar, pr_pr]
      isplitr; · iexact Hf2
      iexact Hrc
    iexact Hbr
  iintro HO
  iapply (Rounds.wp_wait_rest_token 𝒱₀ ER (Rd m) (c : Thread nD τ) none (κ := κ (barCell c)) (sm := .reg barS) (k' := 1)
      (wpE_semWait_eq 𝒱₀ (c : Thread nD τ) none Set.univ) (Set.mem_univ _) 0 (O := Ow c 0 0) (W := W) (R := 0) (m := 0) (T := ∅)
      (by rw [expect_bar])) $$ [Hbc HO Hbar]
  · isplitr; · iapply (know_bar c) $$ Hk
    isplitl [Hbc]; · iexact Hbc
    isplitl [HO]; · iexact HO
    isplitr
    · iapply (mayWait c (.reg barS) (by decide) (by rw [lv_bar]; omega) (by rw [lv_bar]; omega))
      iapply know_lev $$ Hk
    iexact Hbar
  iintro ⟨HO, Hbar, -, Hpay⟩
  ihave #Hpf2 := (Entails.of_eq (rest_bar m c)) $$ Hpay
  icases Hpf2 with ⟨#Hpf, #Hrp⟩
  imod (Rounds.cell_close ER (Rd m) (κ := κ (barCell c)) (Set.mem_univ _) id (fun r hr => later_bar m c r hr)) $$ [Hbar] with Hb
  · isplitr; · iapply (know_bar c) $$ Hk
    iexact Hbar
  iapply Hc
  isplitr [HO]
  · unfold stA SND RCV
    isplitl [Hs0 Hs1 Hcrd Hcc Hkit Hh]
    · isplitl [Hs0]; · iexact Hs0
      isplitl [Hs1]; · iexact Hs1
      isplitr; · rw [show Finset.Ico (min (0 - 2) 14) (min 0 16) = ∅ from rfl]; iempintro
      isplitl [Hcrd]; · iexact Hcrd
      isplitl [Hcc]; · iexact Hcc
      isplitl [Hkit]; · iexact Hkit
      isplitl [Hh]; · iexact Hh
      iexact Hpf
    isplitl [Hr0 Hr1 Hcr Hd0 Hd1 Ht]
    · isplitl [Hr0]; · iexact Hr0
      isplitl [Hr1]; · iexact Hr1
      isplitl [Hcr]; · iexact Hcr
      isplitl [Hd0]; · iexact Hd0
      isplitl [Hd1]; · iexact Hd1
      isplitr; · rw [show Finset.Ico (min (0 - 1) 14) (0 - 1) = ∅ from rfl]; iempintro
      isplitr; · iexact Hf2
      isplitl [Ht]; · iexact Ht
      iexact Hrp
    isplitl [Hm0]; · iexact Hm0
    isplitl [Hm1]; · unfold mineSt; rw [if_neg (by omega)]; iexact Hm1
    isplitl [Hwo]; · iexact Hwo
    iexact Hb
  unfold OW
  iexists _; iexact HO

/-! ## The end -/

theorem close_snd {j : ℕ} (s : Fin 2) (hs : par j = s) (hj : 8 ≤ j / 2) : iprop(know m κ ιs ∗ sndAt c j) ⊢ (|={Set.univ}=> semVal (sndCell c s) 0 : sProp 𝕄) := by
  subst hs
  unfold sndAt
  iintro ⟨#Hk, ⟨Ha, -⟩⟩
  iapply (Rounds.cell_close ER (Rd m) (κ := κ (sndCell c (par j))) (Set.mem_univ _) id (fun r hr => later_snd m c (par j) r (hj.trans hr)))
  isplitr; · iapply (know_snd c (par j)) $$ Hk
  iexact Ha
theorem close_rcv {j : ℕ} (s : Fin 2) (hs : par j = s) (hj : 8 ≤ j / 2) : iprop(know m κ ιs ∗ rcvAt c j) ⊢ (|={Set.univ}=> semVal (rcvCell c s) 0 : sProp 𝕄) := by
  subst hs
  unfold rcvAt
  iintro ⟨#Hk, ⟨Ha, -⟩⟩
  iapply (Rounds.cell_close ER (Rd m) (κ := κ (rcvCell c (par j))) (Set.mem_univ _) id (fun r hr => later_rcv m c (par j) r (hj.trans hr)))
  isplitr; · iapply (know_rcv c (par j)) $$ Hk
  iexact Ha
theorem close_crd : iprop(know m κ ιs ∗ crdSt c 14) ⊢ (|={Set.univ}=> semVal (crdCell c) 0 : sProp 𝕄) := by
  unfold crdSt
  iintro ⟨#Hk, ⟨%S, %hS, Ha, -⟩⟩
  have hsub : Finset.range 14 ⊆ S := by
    rw [← Finset.sdiff_eq_empty_iff_subset, ← Finset.card_eq_zero]; omega
  imod (Rounds.fupd_skip ER (Rd m) (κ := κ (crdCell c)) (g := crdCell c) (R := 0) (m := 14) (T := S) (by rw [duties_crd]; exact hsub) (by rw [expect_crd]) (Set.mem_univ _)) $$ [Ha] with ⟨Ha, -⟩
  · isplitr; · iapply (know_crd c) $$ Hk
    iexact Ha
  iapply (Rounds.cell_close ER (Rd m) (κ := κ (crdCell c)) (Set.mem_univ _) id (fun r hr => later_crd m c r hr))
  isplitr; · iapply (know_crd c) $$ Hk
  iexact Ha

theorem segE_end (t : Fin cfg0.N) (h : t.val = 16) :
    iprop(know m κ ιs ∗ stA m c 17 ∗ OW c 16 16)
      ⊢ iprop(((stEnd F c ∗ OW c 16 16) -∗ Wp c k Q) -∗ Wp c (segE (grid0.coords t) k) Q) := by
  unfold segE
  rw [dif_pos ((atEnd_iff t).mpr h)]
  unfold segF
  simp only [Prog.lift, Prog.bind_op, Prog.bind_ret]
  unfold stA
  rw [show min (17 - 2) 14 = 14 from rfl, show min 17 16 = 16 from rfl, show 17 - 1 = 16 from rfl]
  unfold SND RCV OW
  rw [show min 16 14 = 14 from rfl]
  iintro ⟨#Hk, ⟨⟨Hs0, Hs1, Hcs, Hcrd, -, -, -, -⟩, ⟨Hr0, Hr1, -, -, -, Hh, -, -, -⟩, Hm0, Hm1, Hwo, Hb⟩, ⟨%W, HO⟩⟩ Hc
  ihave Hm1 := (mineSt_any m c 17) $$ Hm1
  ihave Hcs := (run_take (Φ := fun j => cred (tallyAt (sndCell c (par j)) 0 N)) (show 14 < 16 by decide)) $$ Hcs
  icases Hcs with ⟨Hc0, Hcs⟩
  ihave Hcs := (run_take (Φ := fun j => cred (tallyAt (sndCell c (par j)) 0 N)) (show 15 < 16 by decide)) $$ Hcs
  icases Hcs with ⟨Hc1, -⟩
  ihave Hh := (run_take (Φ := fun j => rcvAny (F := F) c (par j)) (show 14 < 16 by decide)) $$ Hh
  icases Hh with ⟨Hv0, Hh⟩
  ihave Hh := (run_take (Φ := fun j => rcvAny (F := F) c (par j)) (show 15 < 16 by decide)) $$ Hh
  icases Hh with ⟨Hv1, -⟩
  iapply (op_snd_wait (m := m) (κ := κ) (ιs := ιs) c (j := 14) (a := 16) (b := 16) (by decide) (by decide)) $$ [Hs0 Hc0 HO]
  · isplitr; · iexact Hk
    isplitl [Hs0]; · iexact Hs0
    isplitl [Hc0]; · iexact Hc0
    iexact HO
  iintro ⟨Hs0, Hl0, HO⟩
  iapply (op_snd_wait (m := m) (κ := κ) (ιs := ιs) c (j := 15) (a := 16) (b := 16) (by decide) (by decide)) $$ [Hs1 Hc1 HO]
  · isplitr; · iexact Hk
    isplitl [Hs1]; · iexact Hs1
    isplitl [Hc1]; · iexact Hc1
    iexact HO
  iintro ⟨Hs1, Hl1, HO⟩
  imod (close_snd c 0 (j := 16) (by decide) (by decide)) $$ [Hs0] with Hs0
  · isplitr; · iexact Hk
    iexact Hs0
  imod (close_snd c 1 (j := 17) (by decide) (by decide)) $$ [Hs1] with Hs1
  · isplitr; · iexact Hk
    iexact Hs1
  imod (close_rcv c 0 (j := 16) (by decide) (by decide)) $$ [Hr0] with Hr0
  · isplitr; · iexact Hk
    iexact Hr0
  imod (close_rcv c 1 (j := 17) (by decide) (by decide)) $$ [Hr1] with Hr1
  · isplitr; · iexact Hk
    iexact Hr1
  imod (close_crd c) $$ [Hcrd] with Hcrd
  · isplitr; · iexact Hk
    iexact Hcrd
  iapply Hc
  isplitr [HO]
  · unfold stEnd
    isplitl [Hs0 Hs1 Hr0 Hr1 Hcrd]
    · isplitl [Hcrd]; · iexact Hcrd
      isplitl [Hs0]; · iexact Hs0
      isplitl [Hs1]; · iexact Hs1
      isplitl [Hr0]; · iexact Hr0
      iexact Hr1
    isplitl [Hl0 Hl1]
    · isplitl [Hl0]; · iexact Hl0
      iexact Hl1
    isplitl [Hv0 Hv1]
    · isplitl [Hv0]; · iexact Hv0
      iexact Hv1
    isplitl [Hm0 Hm1]
    · isplitl [Hm1]; · iexact Hm1
      iexact Hm0
    isplitl [Hwo]; · iexact Hwo
    iexact Hb
  iexists _; iexact HO

end Cert.KernelIdeal.Pf

end
-- ==== Proof.Dat.lean ====
/- What the pipeline holds from grid point to grid point, and the body's part of it. -/
module

public import proofs.«01_k».proof.Proof.Steps

@[expose] public section

set_option maxRecDepth 16384

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)
open Cert.KernelIdeal.Gen

variable {F : FTy → Type} [FloatOps F]

local notation "𝕄" => MT nD τ sig ℕ (Elt F) ℕ UU ℕ

variable (m : (ℓ : Loc nD τ sig) → Buf (Elt F) ℓ) (c : Dev nD)

/-- The protocol's state before point `n`. -/
def stAt (n : ℕ) : sProp 𝕄 := if n = 0 then stS F c else if n = 17 then stEnd F c else stA m c n
/-- What is owed before point `n`. -/
def owAt (n : ℕ) : CellTallies nD τ sig ℕ := if n = 0 then owS c else Ow c (min n 16) (n - 1)
/-- The invariant before point `n`: the generator register, what every device knows, and the protocol's state. -/
def phi (n : ℕ) : sProp 𝕄 := iprop((∃ r, prngReg c r) ∗ ∃ κ ιs, know m κ ιs ∗ stAt m c n)

/-- What each window holds after the body: the inputs their blocks, the output the chunk finished there. -/
def aft (w : Fin 3) (t : Fin cfg0.N) : ((cfg0.win w).block.Idx → Elt F (cfg0.win w).elt) :=
  match w with
  | 0 => iblk m c 0 t
  | 1 => iblk m c 1 t
  | 2 => outV m c (t.val - 1)

def dat : Dat τ (Elt F) ℕ ℕ UU ℕ cfg0 c where
  A w := V m c (Pipeline.arrRef spec0 w)
  after := aft m c
  Φ t := phi m c t.val
  q _ := fullShare
  owed t := owAt c t.val

theorem before_0 (t : Fin cfg0.N) (d) : (dat m c).before 0 t d = xB m c := by
  have h : (dat m c).before 0 t d = iblk m c 0 t :=
    ((dat m c).before_in_eq_fetched 0 rfl (fun _ => rfl) (fun _ _ _ => rfl) (fun _ => rfl) t d).trans rfl
  exact h.trans rfl
theorem aft_1 (t : Fin cfg0.N) : iblk m c 1 t = wB m c t.val := by
  have e : pt t.val = t := Fin.ext (by show min t.val 16 = t.val; have := t_le t; omega)
  unfold wB; rw [e]
theorem before_1 (t : Fin cfg0.N) (d) : (dat m c).before 1 t d = wB m c t.val := by
  have h : (dat m c).before 1 t d = iblk m c 1 t :=
    ((dat m c).before_in_eq_fetched 1 rfl (fun _ => rfl) (fun _ _ _ => rfl) (fun _ => rfl) t d).trans rfl
  exact h.trans (aft_1 m c t)

theorem idle_2 (t : Fin cfg0.N) : cfg0.idle 2 (cfg0.grid.coords t) = decide (t.val = 0) := by
  show (!(k0_cond4 (grid0.coords t) == 1#1)) = _
  by_cases h : t.val = 0
  · rw [decide_eq_true h, Bool.not_eq_true', beq_eq_false_iff_ne]
    intro e; exact absurd ((cond4_iff t).mp e) (by omega)
  · rw [decide_eq_false h, (cond4_iff t).mpr (by omega)]; rfl
theorem flush_2 (t : Fin cfg0.N) (h : t.val = 0) : (cfg0.win 2).flush t = false := by
  have e : t = pt 0 := Fin.ext h
  subst e; decide

theorem owes_out (t : Fin (cfg0.N + 1)) : (dat m c).owesAt 0 t ⊢ iprop(∃ W, owes (c : Thread nD τ) (owAt c t.val) W) := by
  unfold Dat.owesAt Pipeline.owesWithin
  iintro ⟨%W, -, HO⟩
  iexists W; iexact HO
theorem owes_in (t : Fin (cfg0.N + 1)) {n : ℕ} (h : t.val = n) : iprop(∃ W, owes (c : Thread nD τ) (owAt c n) W) ⊢ (dat m c).owesAt 0 t := by
  subst h
  unfold Dat.owesAt Pipeline.owesWithin Dat.bound
  iintro ⟨%W, HO⟩
  iexists W
  isplitr; · ipureintro; exact fun _ _ => Or.inl trivial
  iexact HO

variable {m} {κ : GSem nD τ sig → ℕ} {ιs : K → ℕ} {k : KProg F} {Q : PUnit → sProp (MT nD τ sig ℕ (Elt F) ℕ UU ℕ)}

/-- Entering the body: at the first point the barrier is passed, elsewhere nothing happens. -/
theorem enter (t : Fin cfg0.N) :
    iprop(know m κ ιs ∗ stAt m c t.val ∗ (∃ W, owes (c : Thread nD τ) (owAt c t.val) W))
      ⊢ iprop(((stA m c t.val ∗ OW c (min t.val 16) (t.val - 1)) -∗ Wp c k Q) -∗ Wp c (segA (grid0.coords t) c k) Q) := by
  have hle := t_le t
  by_cases h : t.val = 0
  · unfold stAt owAt
    rw [h, if_pos rfl, if_pos rfl]
    exact segA_zero c t h
  · unfold stAt owAt segA OW
    rw [if_neg h, if_neg (by omega), if_neg h, dif_neg (by rw [cond1_iff]; exact h)]
    iintro ⟨-, HS, HO⟩ Hc
    iapply Hc
    isplitl [HS]; · iexact HS
    iexact HO

/-- Leaving it: at the last point the sends still out are waited for, elsewhere nothing happens. -/
theorem leave (t : Fin cfg0.N) :
    iprop(know m κ ιs ∗ stA m c (t.val + 1) ∗ OW c (min (t.val + 1) 16) t.val)
      ⊢ iprop(((stAt m c (t.val + 1) ∗ (∃ W, owes (c : Thread nD τ) (owAt c (t.val + 1)) W)) -∗ Wp c k Q) -∗ Wp c (segE (grid0.coords t) k) Q) := by
  have hle := t_le t
  by_cases h : t.val = 16
  · unfold stAt owAt
    rw [if_neg (by omega), if_pos (by omega), if_neg (by omega), h]
    exact segE_end c t h
  · unfold stAt owAt segE OW
    rw [if_neg (by omega), if_neg (by omega), if_neg (by omega), dif_neg (by rw [atEnd_iff]; exact h)]
    iintro ⟨-, HS, HO⟩ Hc
    iapply Hc
    isplitl [HS]; · iexact HS
    iexact HO

variable (m)

/-- The body at any point, from the state before it to the state after it. -/
theorem body : BodyObligation (dat m c) (defs₀ (F := F)) 𝒱₀ 0 Set.univ := by
  intro t
  have hle := t_le t
  have h0 : (dat m c).Φ t.castSucc = phi m c t.val := rfl
  have h1 : (dat m c).Φ t.succ = phi m c (t.val + 1) := rfl
  show _ ⊢ Wp c (bodyAt0 t) _
  rw [body_eq, bigSep_W0, bigSep_W0, h0, h1]
  unfold phi
  iintro ⟨⟨Hp, ⟨%κ, %ιs, #Hk, HS⟩⟩, HO, ⟨%d0, H0⟩, ⟨%d1, H1⟩, ⟨%d2, H2⟩⟩
  ihave HO := (owes_out m c t.castSucc) $$ HO
  ihave H0 := (Entails.of_eq (congrArg (owns (c : Thread nD τ) (st0_0 t) fullShare) (before_0 m c t d0))) $$ H0
  ihave H1 := (Entails.of_eq (congrArg (owns (c : Thread nD τ) (st0_1 t) fullShare) (before_1 m c t d1))) $$ H1
  unfold Wp
  rw [wp_deviceId]
  iapply (enter (m := m) (κ := κ) (ιs := ιs) c t) $$ [HS HO]
  · isplitr; · iexact Hk
    isplitl [HS]; · iexact HS
    iexact HO
  iintro ⟨HS, HO⟩
  iapply (segB_t (m := m) (κ := κ) (ιs := ιs) c t) $$ [HS HO H0 H1]
  · isplitr; · iexact Hk
    isplitl [HS]; · iexact HS
    isplitl [HO]; · iexact HO
    isplitl [H0]; · iexact H0
    iexact H1
  iintro ⟨HS, HO, H0, H1⟩
  by_cases h : t.val = 0
  · iapply (segC_zero (m := m) c t h) $$ [HS HO]
    · isplitl [HS]; · iexact HS
      iexact HO
    iintro ⟨HS, HO⟩
    iapply (leave (m := m) (κ := κ) (ιs := ιs) c t) $$ [HS HO]
    · isplitr; · iexact Hk
      isplitl [HS]; · iexact HS
      iexact HO
    iintro ⟨HS, HO⟩
    iapply (wp_done c)
    isplitl [Hp HS]
    · isplitl [Hp]; · iexact Hp
      iexists κ, ιs
      isplitr; · iexact Hk
      iexact HS
    isplitl [HO]; · iapply (owes_in m c t.succ (Fin.val_succ t)) $$ HO
    isplitl [H0]; · iexact H0
    isplitl [H1]; · iapply (Entails.of_eq (congrArg (owns (c : Thread nD τ) (st0_1 t) fullShare) (aft_1 m c t).symm)) $$ H1
    rw [idle_2 t, flush_2 t h, decide_eq_true h]
    iexists d2; iexact H2
  · iapply (segC_pos (m := m) (κ := κ) (ιs := ιs) c t (Nat.one_le_iff_ne_zero.mpr h)) $$ [HS HO H2]
    · isplitr; · iexact Hk
      isplitl [HS]; · iexact HS
      isplitl [HO]; · iexact HO
      iexists _; iexact H2
    iintro ⟨HS, HO, H2⟩
    iapply (leave (m := m) (κ := κ) (ιs := ιs) c t) $$ [HS HO]
    · isplitr; · iexact Hk
      isplitl [HS]; · iexact HS
      iexact HO
    iintro ⟨HS, HO⟩
    iapply (wp_done c)
    isplitl [Hp HS]
    · isplitl [Hp]; · iexact Hp
      iexists κ, ιs
      isplitr; · iexact Hk
      iexact HS
    isplitl [HO]; · iapply (owes_in m c t.succ (Fin.val_succ t)) $$ HO
    isplitl [H0]; · iexact H0
    isplitl [H1]; · iapply (Entails.of_eq (congrArg (owns (c : Thread nD τ) (st0_1 t) fullShare) (aft_1 m c t).symm)) $$ H1
    rw [idle_2 t, decide_eq_false h]
    iexact H2

end Cert.KernelIdeal.Pf

end
-- ==== Proof.Region.lean ====
/- The kernel's region: from what the launch deals out to what it leaves. -/
module

public import proofs.«01_k».proof.Proof.Dat
public import Idealize.ShloMosaic.Lib.Pipeline.RegionTalk
public import Idealize.ShloMosaic.Lib.StableHlo
public import Idealize.ShloMosaic.Harness.Basic

@[expose] public section

set_option maxRecDepth 16384

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)
open Cert.KernelIdeal.Gen

variable {F : FTy → Type} [FloatOps F]

local notation "𝕄" => MT nD τ sig ℕ (Elt F) ℕ UU ℕ

variable (m : (ℓ : Loc nD τ sig) → Buf (Elt F) ℓ) (c : Dev nD)

/-! ## The two-slot buffers, whole and by slots -/

/-- The elements outside slot 0 are those of slot 1. -/
theorem slot_rest : (Finset.univ : Finset S2x1024x512.Idx) \ (slotR 0).set = (slotR 1).set := by
  ext i
  have h0 : (i 0 : ℕ) < 2 := (i 0).isLt
  have h1 : (i 1 : ℕ) < 1024 := (i 1).isLt
  have h2 : (i 2 : ℕ) < 512 := (i 2).isLt
  rw [Finset.mem_sdiff, Rect.mem_set_unit, Rect.mem_set_unit]
  constructor
  · rintro ⟨-, h⟩ a
    have hi : (i 0 : ℕ) = 1 := by
      by_contra hc
      refine h fun a => ?_
      fin_cases a
      · show 0 ≤ (i 0 : ℕ) ∧ (i 0 : ℕ) < 0 + 1; omega
      · show 0 ≤ (i 1 : ℕ) ∧ (i 1 : ℕ) < 0 + 1024; omega
      · show 0 ≤ (i 2 : ℕ) ∧ (i 2 : ℕ) < 0 + 512; omega
    fin_cases a
    · show 1 ≤ (i 0 : ℕ) ∧ (i 0 : ℕ) < 1 + 1; omega
    · show 0 ≤ (i 1 : ℕ) ∧ (i 1 : ℕ) < 0 + 1024; omega
    · show 0 ≤ (i 2 : ℕ) ∧ (i 2 : ℕ) < 0 + 512; omega
  · intro h
    refine ⟨Finset.mem_univ _, fun h' => ?_⟩
    have a := (h 0).1
    have b := (h' 0).2
    change 1 ≤ (i 0 : ℕ) at a
    change (i 0 : ℕ) < 0 + 1 at b
    omega

/-- A buffer held whole is its elements inside and outside a set. -/
theorem cut {ℓ : Loc nD τ sig} {I J : Finset (Idx ℓ)} (h : Finset.univ \ I = J) :
    iprop(∃ f, ℓ ↦{fullShare} f) ⊢ (iprop(Release.slot ℓ I ∗ Release.slot ℓ J) : sProp 𝕄) := by
  subst h
  unfold Release.slot
  iintro ⟨%f, H⟩
  ihave H := (pointsTo_split_subset (Finset.subset_univ I)).1 $$ H
  icases H with ⟨H1, H2⟩
  isplitl [H1]; · iexists f; iexact H1
  iexists f; iexact H2
theorem join {ℓ : Loc nD τ sig} {I J : Finset (Idx ℓ)} (h : Finset.univ \ I = J) :
    (iprop(Release.slot ℓ I ∗ Release.slot ℓ J) : sProp 𝕄) ⊢ iprop(∃ f, ℓ ↦{fullShare} f) := by
  subst h
  unfold Release.slot
  iintro ⟨⟨%f, H1⟩, ⟨%g, H2⟩⟩
  iexists _
  iapply (pointsTo_join_subset (Finset.subset_univ I))
  isplitl [H1]; · iexact H1
  iexact H2

theorem snd_rest : Finset.univ \ (sndM 0).view.set = (sndM 1).view.set := by
  rw [View.set_slice_whole, View.set_slice_whole]; exact slot_rest
theorem rcv_rest : Finset.univ \ (rcvM 0).view.set = (rcvM 1).view.set := by
  rw [View.set_slice_whole, View.set_slice_whole]; exact slot_rest
theorem mine_rest : Finset.univ \ (mineM 0).view.set = (mineM 1).view.set := by
  rw [View.set_slice_whole, View.set_slice_whole]; exact slot_rest

theorem mine_of_slot (s : Fin 2) : (Release.slot ((mineM s).view.loc (c : Thread nD τ)) (mineM s).view.set : sProp 𝕄) ⊢ mineAny c s := by
  unfold Release.slot mineAny owns
  iintro ⟨%f, H⟩
  iexists _, f
  isplitr; · ipureintro; rfl
  iexact H
theorem mine_to_slot (s : Fin 2) : mineAny c s ⊢ (Release.slot ((mineM s).view.loc (c : Thread nD τ)) (mineM s).view.set : sProp 𝕄) := by
  unfold Release.slot mineAny owns
  iintro ⟨%X, %f, -, H⟩
  iexists f
  iexact H
theorem wo_of : (iprop(∃ f, (B7).view.loc (c : Thread nD τ) ↦{fullShare} f) : sProp 𝕄) ⊢ woAny c := by
  unfold woAny owns
  rw [View.set_whole]
  iintro ⟨%f, H⟩
  iexists _, f
  isplitr; · ipureintro; rfl
  iexact H
theorem wo_to : woAny c ⊢ (iprop(∃ f, (B7).view.loc (c : Thread nD τ) ↦{fullShare} f) : sProp 𝕄) := by
  unfold woAny owns
  rw [View.set_whole]
  iintro ⟨%X, %f, -, H⟩
  iexists f
  iexact H

variable (F) in
/-- The scratch buffers, slot by slot. -/
def scr : sProp 𝕄 :=
  iprop((sndAny (F := F) c 0 ∗ sndAny (F := F) c 1) ∗ (rcvAny (F := F) c 0 ∗ rcvAny (F := F) c 1) ∗ (mineAny (F := F) c 0 ∗ mineAny (F := F) c 1) ∗ woAny (F := F) c)

theorem scr_of : (Pipeline.scopedRest spec0 c : sProp 𝕄) ⊢ scr F c := by
  rw [scopedRest0_eq]
  unfold scr
  iintro ⟨H0, H1, H2, H3⟩
  isplitl [H0]; · iapply (cut (ℓ := (c : Thread nD τ).loc cc0_scratch0) snd_rest) $$ H0
  isplitl [H1]; · iapply (cut (ℓ := (c : Thread nD τ).loc cc0_scratch1) rcv_rest) $$ H1
  isplitl [H2]
  · ihave H2 := (cut (ℓ := (c : Thread nD τ).loc cc0_scratch2) mine_rest) $$ H2
    icases H2 with ⟨Ha, Hb⟩
    isplitl [Ha]; · iapply (mine_of_slot c 0) $$ Ha
    iapply (mine_of_slot c 1) $$ Hb
  iapply (wo_of c) $$ H3
theorem scr_to : scr F c ⊢ (Pipeline.scopedRest spec0 c : sProp 𝕄) := by
  rw [scopedRest0_eq]
  unfold scr
  iintro ⟨H0, H1, ⟨Ha, Hb⟩, H3⟩
  isplitl [H0]; · iapply (join (ℓ := (c : Thread nD τ).loc cc0_scratch0) snd_rest) $$ H0
  isplitl [H1]; · iapply (join (ℓ := (c : Thread nD τ).loc cc0_scratch1) rcv_rest) $$ H1
  isplitl [Ha Hb]
  · iapply (join (ℓ := (c : Thread nD τ).loc cc0_scratch2) mine_rest)
    isplitl [Ha]; · iapply (mine_to_slot c 0) $$ Ha
    iapply (mine_to_slot c 1) $$ Hb
  iapply (wo_to c) $$ H3

/-! ## What the launch deals out -/

variable (F) in
/-- A device's credits, the rights to do what it does to its partner, its reader's counts, and its place at the barrier. -/
def dealt : sProp 𝕄 :=
  iprop((bigSep (Finset.Ico 0 14) (fun k => cred (tallyAt (crdCell c) k 1)) ∗ bigSep (Finset.Ico 0 16) (fun j => cred (tallyAt (rcvCell c (par j)) j N))
      ∗ cred (tallyAt (barCell c) 0 1))
    ∗ (bigSep (Finset.Ico 0 16) (sendKit (F := F) c) ∗ bigSep (Finset.Ico 0 14) (fun k => dutyTok ER (crdCell (pr c)) 0 k) ∗ dutyTok ER (barCell (pr c)) 0 0)
    ∗ (readerAt ES (c, (0 : Fin 2)) 0 ∗ readerAt ES (c, (1 : Fin 2)) 0) ∗ (atPos ER (barCell c) 0 ∅ 0 ∗ reached ER (barCell (pr c)) 0))

variable (F) in
/-- A device's place at the start on each of the semaphores the kernel scopes. -/
def opened : sProp 𝕄 :=
  bigSep Finset.univ fun i : Fin 5 => iprop(atPos ER ((c : Thread nD τ), osem i) 0 ∅ 0 ∗ reached ER ((c : Thread nD τ), osem i) 0)

def Tk : sProp 𝕄 := iprop(∃ κ ιs, know m κ ιs ∗ (bigSep Finset.univ fun i : Fin 5 => openTok ER ((c : Thread nD τ), osem i)) ∗ dealt F c)
def Xk : sProp 𝕄 := iprop(∃ κ ιs, know m κ ιs ∗ opened F c ∗ dealt F c)
def Yk : sProp 𝕄 := semVal (barCell c) 0

theorem five (Φ : Fin 5 → sProp 𝕄) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- Opening one of the scoped semaphores, whose counter is at zero. -/
theorem open_one (κ : GSem nD τ sig → ℕ) (ιs : K → ℕ) (i : Fin 5) :
    iprop(know m κ ιs ∗ openTok ER ((c : Thread nD τ), osem i) ∗ semVal ((c : Thread nD τ), osem i) 0)
      ⊢ (|={Set.univ}=> (atPos ER ((c : Thread nD τ), osem i) 0 ∅ 0 ∗ reached ER ((c : Thread nD τ), osem i) 0) : sProp 𝕄) := by
  iintro ⟨#Hk, Ho, Hv⟩
  iapply (Rounds.cell_open ER (Rd m) (g := ((c : Thread nD τ), osem i)) (Set.mem_univ (κ ((c : Thread nD τ), osem i))))
  isplitr; · iapply (know_sc c i) $$ Hk
  isplitl [Ho]; · iexact Ho
  iexact Hv

theorem hopen : iprop(Tk m c ∗ Pipeline.ownSems0 osem c ∗ levAts L lv) ⊢ (|={Set.univ}=> Xk m c : sProp 𝕄) := by
  unfold Tk Xk Pipeline.ownSems0 opened
  rw [five, five, five]
  iintro ⟨⟨%κ, %ιs, #Hk, ⟨Ho0, Ho1, Ho2, Ho3, Ho4⟩, Hd⟩, ⟨Hv0, Hv1, Hv2, Hv3, Hv4⟩, -⟩
  imod (open_one m c κ ιs 0) $$ [Ho0 Hv0] with H0
  · isplitr; · iexact Hk
    isplitl [Ho0] <;> iassumption
  imod (open_one m c κ ιs 1) $$ [Ho1 Hv1] with H1
  · isplitr; · iexact Hk
    isplitl [Ho1] <;> iassumption
  imod (open_one m c κ ιs 2) $$ [Ho2 Hv2] with H2
  · isplitr; · iexact Hk
    isplitl [Ho2] <;> iassumption
  imod (open_one m c κ ιs 3) $$ [Ho3 Hv3] with H3
  · isplitr; · iexact Hk
    isplitl [Ho3] <;> iassumption
  imod (open_one m c κ ιs 4) $$ [Ho4 Hv4] with H4
  · isplitr; · iexact Hk
    isplitl [Ho4] <;> iassumption
  imodintro
  iexists κ, ιs
  isplitr; · iexact Hk
  isplitr [Hd]
  · isplitl [H0]; · iexact H0
    isplitl [H1]; · iexact H1
    isplitl [H2]; · iexact H2
    isplitl [H3]; · iexact H3
    iexact H4
  iexact Hd

/-- The state at the start from what was dealt, the opened semaphores and the scratch buffers. -/
theorem start_of : iprop(opened F c ∗ dealt F c ∗ scr F c) ⊢ stS F c := by
  unfold opened dealt scr stS
  rw [five]
  iintro ⟨⟨⟨Hc, #Hc'⟩, ⟨Hs0, #Hs0'⟩, ⟨Hs1, #Hs1'⟩, ⟨Hr0, #Hr0'⟩, ⟨Hr1, #Hr1'⟩⟩, ⟨⟨Hcc, Hcr, Hcb⟩, ⟨Hkit, Ht, Htb⟩, ⟨Hd0, Hd1⟩, ⟨Hb, Hb'⟩⟩, ⟨⟨Ha0, Ha1⟩, ⟨Hv0, Hv1⟩, ⟨Hm0, Hm1⟩, Hw⟩⟩
  isplitl [Hs0 Hs1 Hc Hcc Hkit Ha0 Ha1]
  · unfold sndAt crdSt
    isplitl [Hs0]
    · isplitl [Hs0]; · iexact Hs0
      iexact Hs0'
    isplitl [Hs1]
    · isplitl [Hs1]; · iexact Hs1
      iexact Hs1'
    isplitl [Hc]
    · iexists ∅
      isplitr; · ipureintro; exact ⟨Finset.empty_subset _, by decide⟩
      isplitl [Hc]; · iexact Hc
      rw [BI.bigSep_empty]; iempintro
    isplitl [Hcc]; · iexact Hcc
    isplitl [Hkit]; · iexact Hkit
    rw [show bigSep (Finset.Ico 0 2) (fun j => sndAny (F := F) c (par j)) = iprop(sndAny c (par 0) ∗ sndAny c (par 1)) from
      bigSep_eq_bigSepL_of_eq [0, 1] (by decide) (by decide) _]
    isplitl [Ha0]; · iexact Ha0
    iexact Ha1
  isplitl [Hr0 Hr1 Hcr Hd0 Hd1 Hv0 Hv1 Ht]
  · unfold rcvAt
    isplitl [Hr0]
    · isplitl [Hr0]; · iexact Hr0
      iexact Hr0'
    isplitl [Hr1]
    · isplitl [Hr1]; · iexact Hr1
      iexact Hr1'
    isplitl [Hcr]; · iexact Hcr
    isplitl [Hd0 Hv0]
    · isplitl [Hd0]; · iexact Hd0
      iexact Hv0
    isplitl [Hd1 Hv1]
    · isplitl [Hd1]; · iexact Hd1
      iexact Hv1
    isplitl [Ht]; · iexact Ht
    iexact Hc'
  isplitl [Hm0 Hm1 Hw]
  · isplitl [Hm0]; · iexact Hm0
    isplitl [Hm1]; · iexact Hm1
    iexact Hw
  isplitl [Hb]; · iexact Hb
  isplitl [Hcb]; · iexact Hcb
  isplitl [Htb]; · iexact Htb
  iexact Hb'

/-! ## The buffers around the region -/

abbrev V₀ : Valuation τ sig (Elt F) := fun b => m (c, b)
abbrev V₁ : Valuation τ sig (Elt F) := StableHlo.after hostOps0 (V₀ m c)
/-- What the region leaves: the output array with every chunk written, the rest as it was. -/
def V₂ : Valuation τ sig (Elt F) := Function.update (V₁ m c) (Proc.devRef .tc main_v2) ((dat m c).arrAt 2 cfg0.N)

/-- The unscoped buffers, and the one no window moves. -/
def bufs : Finset (DevRef τ sig) := (StableHlo.tcRefs τ sig).filter fun b => ¬ b.isScoped
abbrev keep : Finset (DevRef τ sig) := {Proc.devRef .tc main_arg0}

abbrev adm : (p : Fin 1) → (pcfgs (F := F) p).Adm := fun p => (cfgs p).toPCfg_adm
def pdats : (p : Fin 1) → (c : Dev nD) → Pipeline.Dat τ (Elt F) ℕ ℕ UU ℕ (Pipeline.pin (pcfgs (F := F)) adm p) c
  | 0 => dat m

theorem hin : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  show iprop(Pipeline.scopedRest spec0 c ∗ (∃ r, prngReg c r) ∗ StableHlo.held (c.tc : Thread nD τ) ∅ (V₁ m c) ∗ Xk m c) ⊢ phi m c 0
  unfold Xk phi stAt
  rw [if_pos rfl]
  iintro ⟨Hs, Hp, -, ⟨%κ, %ιs, #Hk, Ho, Hd⟩⟩
  isplitl [Hp]; · iexact Hp
  iexists κ, ιs
  isplitr; · iexact Hk
  iapply (start_of c)
  isplitl [Ho]; · iexact Ho
  isplitl [Hd]; · iexact Hd
  iapply (scr_of c) $$ Hs

theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c)
      ∗ Pipeline.ownSems0 osem c ∗ Yk c) := by
  show phi m c cfg0.N ⊢ iprop(Pipeline.scopedRest spec0 c ∗ (∃ r, prngReg c r) ∗ StableHlo.held (c.tc : Thread nD τ) ∅ (V₂ m c) ∗ Pipeline.ownSems0 osem c ∗ Yk c)
  rw [show cfg0.N = 17 from N_0]
  unfold phi stAt Yk Pipeline.ownSems0 StableHlo.held
  rw [if_neg (by decide), if_pos rfl, BI.bigSep_empty, five]
  unfold stEnd
  iintro ⟨Hp, ⟨%κ, %ιs, -, ⟨⟨H0, H1, H2, H3, H4⟩, Hs, Hr, Hm, Hw, Hb⟩⟩⟩
  isplitl [Hs Hr Hm Hw]
  · iapply (scr_to c)
    unfold scr
    isplitl [Hs]; · iexact Hs
    isplitl [Hr]; · iexact Hr
    isplitl [Hm]; · iexact Hm
    iexact Hw
  isplitl [Hp]; · iexact Hp
  isplitr; · iempintro
  isplitr [Hb]
  · isplitl [H0]; · iexact H0
    isplitl [H1]; · iexact H1
    isplitl [H2]; · iexact H2
    isplitl [H3]; · iexact H3
    iexact H4
  iexact Hb

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What is owed is owed above the level of the staging waits. -/
theorem owAt_above (n : ℕ) {g : GSem nD τ sig} {i : ℕ} (h : 0 < owAt c n g i) : i ∈ L g ∧ 0 < lv g i := by
  have hO {a b : ℕ} (h : 0 < Ow c a b g i) : i ∈ L g ∧ 0 < lv g i := by
    rcases Ow_pos c h with ⟨rfl, -, h⟩ | ⟨rfl, -, h⟩
    · rw [L_tc, lv_rcv]; exact ⟨Finset.mem_range.mpr (by omega), by omega⟩
    · rw [L_tc, lv_crd]; exact ⟨Finset.mem_range.mpr (by omega), by omega⟩
  unfold owAt at h
  split at h
  · have h' : 0 < Ow c 0 0 g i + tallyAt (barCell (pr c)) 0 1 g i := h
    rcases Nat.add_pos_iff_pos_or_pos.mp h' with h | h
    · exact hO h
    · rw [tallyAt_apply] at h
      by_cases hc : g = barCell (pr c) ∧ i = 0
      · obtain ⟨rfl, rfl⟩ := hc
        rw [L_tc, lv_bar]; exact ⟨Finset.mem_range.mpr (by omega), by omega⟩
      · rw [if_neg hc] at h; omega
  · exact hO h

theorem stage_role (w : Fin 3) (s : Fin (cfg0.win w).nbuf) : role (.dma ((cfg0.win w).sem s)) = .other := by
  revert s; revert w; decide

theorem owAt_end (n : ℕ) (h : n = 17) : owAt c n = 0 := by
  subst h
  unfold owAt
  rw [if_neg (by decide)]
  show owedR c 16 + owedC c 16 = 0
  rw [owedR_nil c (le_refl _), owedC_nil c (by decide), add_zero]

theorem V₂_of_ne {b : DevRef τ sig} (h : b ≠ Proc.devRef .tc main_v2) : V₂ m c b = V₁ m c b := Function.update_of_ne h ..

theorem V₂_out : V₂ m c (Proc.devRef .tc main_v2) = (dat m c).arrAt 2 cfg0.N := Function.update_self ..

theorem arr_at_start (w : Fin 3) : (dat m c).arrAt w 0 = V₁ m c (Proc.devRef .tc (Pipeline.arrRef spec0 w)) := rfl
theorem arr_at_end (w : Fin 3) : (dat m c).arrAt w cfg0.N = V₂ m c (Proc.devRef .tc (Pipeline.arrRef spec0 w)) := by
  match w with
  | 0 => exact ((dat m c).arrAt_in 0 rfl _).trans (V₂_of_ne m c (b := Proc.devRef .tc main_v1) (StableHlo.devRef_ne_of_ne (by decide))).symm
  | 1 => exact ((dat m c).arrAt_in 1 rfl _).trans (V₂_of_ne m c (b := Proc.devRef .tc main_arg1) (StableHlo.devRef_ne_of_ne (by decide))).symm
  | 2 => exact (V₂_out m c).symm

set_option backward.isDefEq.respectTransparency.types false in
/-- The region. -/
def reg : Pipeline.RegionSeg (pcfgs (F := F)) adm (pdats m) 0 (defs₀ (F := F)) 𝒱₀ L lv 0 :=
  Pipeline.RegionSeg.ofTalk (pcfgs (F := F)) adm (pdats m) 0 defs₀ 𝒱₀ L lv 0 osem (by decide : Pipeline.OwnSemFacts spec0 osem)
    ∅ keep (Finset.empty_subset _) kit rfl (fun c => (body m c).loose)
    (fun _ => 0) owS (fun c => (zero_add _).symm) (fun c => owAt_end c _ N_0) (fun _ => rfl)
    (fun c w => by match w with | 0 => rfl | 1 => rfl | 2 => rfl)
    (V₁ m) (V₂ m) (fun c b hb => V₂_of_ne m c (by
      rw [Finset.mem_singleton.mp (Finset.mem_sdiff.mp hb).1]; exact StableHlo.devRef_ne_of_ne (by decide)))
    (Tk m) Yk (Xk m) Yk (hopen m) (hin m) (hout m)
    (fun c => by iintro H; imodintro; iexact H)
    (fun _ => 0)
    ⟨fun c w s => by rw [L_tc]; decide, fun c w s => by show levOf (role _) 0 ≤ 0; rw [stage_role w s]; exact le_refl _,
      fun c t g i h => owAt_above c _ h⟩
    (fun _ => iprop(emp))
    (arr_at_start m) (arr_at_end m)

end Cert.KernelIdeal.Pf

end
-- ==== Proof.Launch.lean ====
/- The launch: every cell and slot allocated and everything dealt out, and the run of the whole program. -/
module

public import proofs.«01_k».proof.Proof.Region
public import Idealize.ShloMosaic.Lib.Pipeline.Kit
public import Idealize.ShloMosaic.Lib.SparseCore.Launch

@[expose] public section

set_option maxRecDepth 16384

noncomputable section

namespace Cert.KernelIdeal.Pf

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Smoke (bigSep_pair bigSep_unpair)
open Idealize.ShloMosaic.Pipeline (Dat Cfg BodyObligation cellOf)
open Cert.KernelIdeal.Gen

variable {F : FTy → Type} [FloatOps F]
local notation "𝕄" => MT nD τ sig ℕ (Elt F) ℕ UU ℕ
local notation "ℍ" => Pipeline.HostSeg (Ix := ℕ) (Name := ℕ) (U := UU) (Lvl := ℕ) (pcfgs (F := F)) (defs₀ (F := F)) 𝒱₀ L lv

variable (m : (x : Loc nD τ sig) → Buf (Elt F) x) (ρ : Dev nD → PrngReg)

/-! ## The duties' tokens -/

section Tokens

/-- A duty of each device, named by a semaphore, a round and a number, for each `n`. -/
def tokE (f : ℕ → SemLoc sig × ℕ × ℕ) (hf : Function.Injective f) : Dev nD × ℕ ↪ GSem nD τ sig × ℕ × ℕ :=
  ⟨fun x => (((x.1 : Thread nD τ), (f x.2).1), (f x.2).2), fun a b h =>
    Prod.ext (congrArg (fun t : GSem nD τ sig × ℕ × ℕ => t.1.1.1) h)
      (hf (Prod.ext (congrArg (fun t : GSem nD τ sig × ℕ × ℕ => t.1.2) h) (congrArg (fun t : GSem nD τ sig × ℕ × ℕ => t.2) h)))⟩
def tokS (f : ℕ → SemLoc sig × ℕ × ℕ) (hf : Function.Injective f) (n : ℕ) : Finset (GSem nD τ sig × ℕ × ℕ) :=
  (Finset.univ ×ˢ Finset.Ico 0 n).map (tokE f hf)

theorem tokS_eq (f : ℕ → SemLoc sig × ℕ × ℕ) (hf : Function.Injective f) (n : ℕ) (Φ : GSem nD τ sig × ℕ × ℕ → sProp 𝕄) :
    bigSep (tokS f hf n) Φ = bigSep Finset.univ fun c : Dev nD => bigSep (Finset.Ico 0 n) fun j => Φ (((c : Thread nD τ), (f j).1), (f j).2) := by
  unfold tokS
  rw [BI.bigSep_map, SparseCore.bigSep_product]
  rfl

theorem tokS_disj {f g : ℕ → SemLoc sig × ℕ × ℕ} {hf : Function.Injective f} {hg : Function.Injective g} (n k : ℕ) (h : ∀ i j, (f i).1 ≠ (g j).1) :
    Disjoint (tokS f hf n) (tokS g hg k) := by
  rw [Finset.disjoint_left]
  rintro t h₁ h₂
  obtain ⟨x, -, rfl⟩ := Finset.mem_map.mp h₁
  obtain ⟨y, -, h'⟩ := Finset.mem_map.mp h₂
  exact h x.2 y.2 (congrArg (fun t : GSem nD τ sig × ℕ × ℕ => t.1.2) h').symm

theorem par_half {a b : ℕ} (h : par a = par b) (h' : a / 2 = b / 2) : a = b := by
  have := congrArg Fin.val h
  simp only [par] at this
  omega

def fBar (k : ℕ) : SemLoc sig × ℕ × ℕ := (.reg barS, 0, k)
def fCrd (k : ℕ) : SemLoc sig × ℕ × ℕ := (.reg crdS, 0, k)
def fSnd (j : ℕ) : SemLoc sig × ℕ × ℕ := (.dma (sndS (par j)), j / 2, 0)
def fRcv (j : ℕ) : SemLoc sig × ℕ × ℕ := (.dma (rcvS (par j)), j / 2, 0)
theorem fBar_inj : Function.Injective fBar := fun a b h => congrArg (fun t : SemLoc sig × ℕ × ℕ => t.2.2) h
theorem fCrd_inj : Function.Injective fCrd := fun a b h => congrArg (fun t : SemLoc sig × ℕ × ℕ => t.2.2) h
theorem fSnd_inj : Function.Injective fSnd := fun a b h => par_half
  (by have := congrArg role (congrArg Prod.fst h); dsimp only [fSnd] at this; rw [role_snd, role_snd] at this; exact Role.snd.inj this)
  (congrArg (fun t : SemLoc sig × ℕ × ℕ => t.2.1) h)
theorem fRcv_inj : Function.Injective fRcv := fun a b h => par_half
  (by have := congrArg role (congrArg Prod.fst h); dsimp only [fRcv] at this; rw [role_rcv, role_rcv] at this; exact Role.rcv.inj this)
  (congrArg (fun t : SemLoc sig × ℕ × ℕ => t.2.1) h)

theorem ne_of_role {a b : SemLoc sig} (h : role a ≠ role b) : a ≠ b := fun e => h (congrArg role e)

def toks : Finset (GSem nD τ sig × ℕ × ℕ) :=
  tokS fBar fBar_inj 1 ∪ (tokS fCrd fCrd_inj 14 ∪ (tokS fSnd fSnd_inj 16 ∪ tokS fRcv fRcv_inj 16))

/-- The tokens, as each device's own four families. -/
theorem toks_eq (Φ : GSem nD τ sig × ℕ × ℕ → sProp 𝕄) :
    bigSep toks Φ = iprop((bigSep Finset.univ fun c : Dev nD => Φ (barCell c, 0, 0))
      ∗ (bigSep Finset.univ fun c : Dev nD => bigSep (Finset.Ico 0 14) fun k => Φ (crdCell c, 0, k))
      ∗ (bigSep Finset.univ fun c : Dev nD => bigSep (Finset.Ico 0 16) fun j => Φ (sndCell c (par j), j / 2, 0))
      ∗ (bigSep Finset.univ fun c : Dev nD => bigSep (Finset.Ico 0 16) fun j => Φ (rcvCell c (par j), j / 2, 0))) := by
  unfold toks
  rw [SparseCore.bigSep_union', SparseCore.bigSep_union', SparseCore.bigSep_union', tokS_eq, tokS_eq, tokS_eq, tokS_eq]
  · rw [show (fun c : Dev nD => bigSep (Finset.Ico 0 1) fun j => Φ (((c : Thread nD τ), (fBar j).1), (fBar j).2)) = fun c : Dev nD => Φ (barCell c, 0, 0) from
      funext fun c => by rw [show Finset.Ico 0 1 = {0} from by decide, BI.bigSep_singleton]; rfl]
    rfl
  · exact tokS_disj _ _ fun i j => ne_of_role (by simp only [fSnd, fRcv, role_snd, role_rcv]; intro h; cases h)
  · exact Finset.disjoint_union_right.mpr
      ⟨tokS_disj _ _ fun i j => ne_of_role (by simp only [fCrd, fSnd, role_snd, role_crd]; intro h; cases h),
        tokS_disj _ _ fun i j => ne_of_role (by simp only [fCrd, fRcv, role_rcv, role_crd]; intro h; cases h)⟩
  · exact Finset.disjoint_union_right.mpr
      ⟨tokS_disj _ _ fun i j => ne_of_role (by simp only [fBar, fCrd, role_bar, role_crd]; intro h; cases h), Finset.disjoint_union_right.mpr
      ⟨tokS_disj _ _ fun i j => ne_of_role (by simp only [fBar, fSnd, role_snd, role_bar]; intro h; cases h),
        tokS_disj _ _ fun i j => ne_of_role (by simp only [fBar, fRcv, role_rcv, role_bar]; intro h; cases h)⟩⟩

/-- A device's slot and its turn, for each chunk. -/
def wE : Dev nD × ℕ ↪ K × ℕ :=
  ⟨fun x => ((x.1, par x.2), x.2 / 2), fun a b h => Prod.ext (congrArg (fun t : K × ℕ => t.1.1) h)
    (par_half (congrArg (fun t : K × ℕ => t.1.2) h) (congrArg (fun t : K × ℕ => t.2) h))⟩
theorem turns : (Finset.univ : Finset K) ×ˢ Finset.range 8 = (Finset.univ ×ˢ Finset.Ico 0 16).map wE := by
  ext ⟨⟨c, s⟩, r⟩
  simp only [Finset.mem_product, Finset.mem_univ, true_and, Finset.mem_range, Finset.mem_map, Finset.mem_Ico, Prod.exists]
  constructor
  · intro h
    refine ⟨c, 2 * r + s.val, by omega, ?_⟩
    show ((c, par (2 * r + s.val)), (2 * r + s.val) / 2) = ((c, s), r)
    rw [show par (2 * r + s.val) = s from Fin.ext (by simp only [par]; omega), show (2 * r + s.val) / 2 = r by omega]
  · rintro ⟨d, j, ⟨-, hj⟩, h⟩
    have : j / 2 = r := congrArg (fun t : K × ℕ => t.2) h
    omega
theorem turns_eq (Φ : K × ℕ → sProp 𝕄) :
    bigSep ((Finset.univ : Finset K) ×ˢ Finset.range 8) Φ
      = bigSep Finset.univ fun c : Dev nD => bigSep (Finset.Ico 0 16) fun j => Φ ((c, par j), j / 2) := by
  rw [turns, BI.bigSep_map, SparseCore.bigSep_product]; rfl

end Tokens

/-! ## The launch credit -/

section Credits
variable (c : Dev nD)

theorem cred_at (sm : SemLoc sig) (i n : ℕ) :
    (Pipeline.launchCred (fun d : Dev nD => tallyAt ((pr d : Thread nD τ), sm) i n) c : sProp 𝕄) ⊢ cred (tallyAt ((c : Thread nD τ), sm) i n) := by
  refine (Pipeline.launchCred_elim _ c sm).trans (Entails.of_eq ?_)
  congr 1
  unfold tallyAt
  refine congrArg _ (Finsupp.ext fun k => ?_)
  rw [Pipeline.launchCredit_owing]
  rw [Finset.sum_eq_single (pr c) (fun d _ hd => ?_) (fun h => absurd (Finset.mem_univ _) h)]
  · rw [pr_pr]; show tallyAt ((c : Thread nD τ), sm) i n ((c : Thread nD τ), sm) k = _
    unfold tallyAt tallyOn; rw [Pi.single_eq_same]
  · show tallyAt ((pr d : Thread nD τ), sm) i n ((c : Thread nD τ), sm) k = 0
    rw [tallyAt_apply, if_neg]
    rintro ⟨h, -⟩
    exact hd (by rw [show c = pr d from congrArg (fun g : GSem nD τ sig => g.1.1) h, pr_pr])

theorem creds : (Pipeline.launchCred owS c : sProp 𝕄) ⊢ iprop(bigSep (Finset.Ico 0 14) (fun k => cred (tallyAt (crdCell c) k 1))
    ∗ bigSep (Finset.Ico 0 16) (fun j => cred (tallyAt (rcvCell c (par j)) j N)) ∗ cred (tallyAt (barCell c) 0 1)) := by
  show (Pipeline.launchCred (fun d => (owedR d 0 + owedC d 0) + tallyAt (barCell (pr d)) 0 1) c : sProp 𝕄) ⊢ _
  rw [Pipeline.launchCred_add (fun d => owedR d 0 + owedC d 0) (fun d => tallyAt (barCell (pr d)) 0 1), Pipeline.launchCred_add (fun d => owedR d 0) (fun d => owedC d 0)]
  unfold owedR owedC
  rw [Pipeline.launchCred_sum, Pipeline.launchCred_sum]
  iintro ⟨⟨Hr, Hc⟩, Hb⟩
  isplitl [Hc]; · iapply (show _ ⊢ _ from BI.bigSep_mono fun k _ => cred_at c (.reg crdS) k 1) $$ Hc
  isplitl [Hr]; · iapply (show _ ⊢ _ from BI.bigSep_mono fun j _ => cred_at c (.dma (rcvS (par j))) j N) $$ Hr
  iapply (cred_at c (.reg barS) 0 1) $$ Hb

end Credits

/-! ## The program as its segments -/

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
theorem bufs_eq (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1)) ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl
theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

def R (c : Dev nD) : sProp 𝕄 := iprop(Tk m c ∗ (∃ r, prngReg c r) ∗ ∃ W, owes (c : Thread nD τ) (owS c) W)

theorem ops_sub : ∀ op ∈ (hostOps0 : List (HloOp τ sig (Elt F))), op.bufs ⊆ bufs := by
  intro op h
  rw [List.mem_singleton.mp h]
  exact (by decide : ({Proc.devRef .tc main_arg0, Proc.devRef .tc main_v1} : Finset (DevRef τ sig)) ⊆ bufs)
theorem ops_fresh : ∀ op ∈ (hostOps0 : List (HloOp τ sig (Elt F))), op.fresh = ∅ := by
  intro op h
  rw [List.mem_singleton.mp h]; rfl

def seg0 : ℍ := Pipeline.HostSeg.ofOps _ _ _ _ _ bufs hostOps0 ops_sub ops_fresh (V₀ m) (R m)

/-- The program as a list: the reshape, then the region. -/
def segs : List (Pipeline.Seg (pcfgs (F := F)) adm (pdats m) 0 defs₀ 𝒱₀ L lv) := [.host (seg0 m), .region (reg m)]

theorem main_eq (c : Dev nD) : main (F := F) c = Pipeline.Seg.run (segs m) :=
  main_segs adm (pdats m) 0 𝒱₀ L lv (seg0 m) (reg m) rfl c

theorem arrs_sub : Pipeline.arrRefs (τ := τ) spec0 ⊆ bufs := by decide
theorem arrs_rest : bufs \ Pipeline.arrRefs (τ := τ) spec0 = keep := by decide

theorem reg_pre (c : Dev nD) : iprop(StableHlo.held (c : Thread nD τ) bufs (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) keep (V₁ m c) ∗ emp) ∗ Tk m c ∗ ∃ Wd, owes (c : Thread nD τ) (0 + owS c) Wd)
  rw [zero_add, StableHlo.held_sub_split (c : Thread nD τ) arrs_sub, arrs_rest]
  unfold R
  iintro ⟨⟨Ha, Hk⟩, HT, Hp, HO⟩
  isplitl [Ha]; · iexact Ha
  isplitl [Hp]; · iexact Hp
  isplitl [Hk]
  · isplitl [Hk]; · iexact Hk
    iempintro
  isplitl [HT]; · iexact HT
  iexact HO

abbrev Tₙ (c : Dev nD) : sProp 𝕄 := iprop(StableHlo.held (c : Thread nD τ) bufs (V₂ m c) ∗ semVal (barCell c) 0)

theorem reg_post (c : Dev nD) : (reg m).post c ⊢ iprop(Tₙ m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) keep (V₂ m c) ∗ emp) ∗ Yk c ∗ ∃ Wd, owes (c : Thread nD τ) (0 : CellTallies nD τ sig ℕ) Wd) ⊢ _
  unfold Tₙ Yk
  rw [StableHlo.held_sub_split (c : Thread nD τ) arrs_sub, arrs_rest]
  iintro ⟨Ha, -, ⟨Hk, -⟩, Hb, HO⟩
  isplitr [HO]
  · isplitl [Ha Hk]
    · isplitl [Ha]; · iexact Ha
      iexact Hk
    iexact Hb
  iexact HO

/-! ## The launch -/

theorem disjoint_cells : Disjoint barCells scCells := by
  rw [Finset.disjoint_left]
  rintro g h₁ h₂
  obtain ⟨c, -, rfl⟩ := Finset.mem_map.mp h₁
  obtain ⟨x, -, h⟩ := Finset.mem_map.mp h₂
  exact bar_ne_osem x.2 (congrArg Prod.snd h).symm

/-- The protocol's element at launch: the cells with their duties, and the receive slots with their turns. -/
def x₀ : UX := (launchOf barCells scCells toks, initSlots Finset.univ 8)
def u₀ : UU :=
  (initOf (Pipeline.cells (Pipeline.pin (pcfgs (F := F)) adm) cellOf_inj) (Pipeline.launchToks (Pipeline.pin (pcfgs (F := F)) adm) cellOf_inj), x₀)

/-- The whole of it, given to one device until the launch step. -/
def G (c : Dev nD) : sProp 𝕄 := if c = 0 then BI.own (EX x₀) else iprop(emp)
theorem G_all : bigSep Finset.univ (G (F := F)) = BI.own (EX x₀) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- A device's part of what the allocation gives out. -/
def lin (c : Dev nD) : sProp 𝕄 :=
  iprop((bigSep Finset.univ fun i : Fin 5 => openTok ER ((c : Thread nD τ), osem i))
    ∗ (bigSep (Finset.Ico 0 16) (sendKit (F := F) c) ∗ bigSep (Finset.Ico 0 14) (fun k => dutyTok ER (crdCell (pr c)) 0 k) ∗ dutyTok ER (barCell (pr c)) 0 0)
    ∗ (readerAt ES (c, (0 : Fin 2)) 0 ∗ readerAt ES (c, (1 : Fin 2)) 0) ∗ atPos ER (barCell c) 0 ∅ 0)

/-- A device's part of what it starts with otherwise. -/
def bund (c : Dev nD) : sProp 𝕄 :=
  iprop(StableHlo.held (c : Thread nD τ) bufs (V₀ m c)
    ∗ (bigSep (Finset.Ico 0 14) (fun k => cred (tallyAt (crdCell c) k 1)) ∗ bigSep (Finset.Ico 0 16) (fun j => cred (tallyAt (rcvCell c (par j)) j N))
      ∗ cred (tallyAt (barCell c) 0 1))
    ∗ owes (c : Thread nD τ) (owS c) ∅ ∗ ∃ r, prngReg c r)

abbrev T₀ (c : Dev nD) : sProp 𝕄 := iprop(StableHlo.held (c : Thread nD τ) bufs (V₀ m c) ∗ R m c)

theorem T₀_of (κ : GSem nD τ sig → ℕ) (ιs : K → ℕ) (c : Dev nD) :
    iprop((know m κ ιs ∗ bigSep barCells fun g => reached ER g 0) ∗ (lin c ∗ bund m c)) ⊢ T₀ m c := by
  unfold T₀ R Tk lin bund dealt
  iintro ⟨⟨#Hk, #Hr⟩, ⟨Ho, Ht, Hd, Hb⟩, Hh, Hc, HO, Hp⟩
  isplitl [Hh]; · iexact Hh
  isplitr [HO Hp]
  · iexists κ, ιs
    isplitr; · iexact Hk
    isplitl [Ho]; · iexact Ho
    isplitl [Hc]; · iexact Hc
    isplitl [Ht]; · iexact Ht
    isplitl [Hd]; · iexact Hd
    isplitl [Hb]; · iexact Hb
    iapply (show (bigSep barCells fun g => (reached ER g 0 : sProp 𝕄)) ⊢ _ from BI.bigSep_elim (Finset.mem_map_of_mem barEmb (Finset.mem_univ (pr c)))) $$ Hr
  isplitl [Hp]; · iexact Hp
  iexists ∅; iexact HO

/-- What the allocation gives out, device by device; a right to act on the partner goes to the partner. -/
theorem lin_all :
    iprop(bigSep scCells (fun g => openTok ER g) ∗ bigSep toks (fun x => dutyTok ER x.1 x.2.1 x.2.2)
        ∗ bigSep (Finset.univ : Finset K) (fun k => readerAt ES k 0) ∗ bigSep ((Finset.univ : Finset K) ×ˢ Finset.range 8) (fun x => writeTok ES x.1 (x.2 + 1))
        ∗ bigSep barCells (fun g => atPos ER g 0 ∅ 0))
      ⊢ (bigSep Finset.univ (lin (F := F)) : sProp 𝕄) := by
  unfold scCells barCells
  rw [toks_eq, turns_eq, BI.bigSep_map, BI.bigSep_map, BI.bigSep_univ_prod, BI.bigSep_univ_prod,
    bigSep_univ_equiv swap (fun c : Dev nD => (dutyTok ER (barCell c) 0 0 : sProp 𝕄)),
    bigSep_univ_equiv swap (fun c : Dev nD => (bigSep (Finset.Ico 0 14) fun k => dutyTok ER (crdCell c) 0 k : sProp 𝕄)),
    bigSep_univ_equiv swap (fun c : Dev nD => (bigSep (Finset.Ico 0 16) fun j => dutyTok ER (rcvCell c (par j)) (j / 2) 0 : sProp 𝕄)),
    bigSep_univ_equiv swap (fun c : Dev nD => (bigSep (Finset.Ico 0 16) fun j => writeTok ES (c, par j) (j / 2 + 1) : sProp 𝕄))]
  unfold lin
  iintro ⟨Ho, ⟨Hb, Hc, Hs, Hr⟩, Hd, Hw, Ha⟩
  iapply bigSep_pair; isplitl [Ho]; · iexact Ho
  iapply bigSep_pair
  isplitl [Hb Hc Hs Hr Hw]
  · iapply bigSep_pair
    isplitl [Hs Hr Hw]
    · unfold sendKit
      simp only [BI.bigSep_sep']
      isplitl [Hs]; · iexact Hs
      isplitl [Hr]; · iexact Hr
      iexact Hw
    iapply bigSep_pair; isplitl [Hc]; · iexact Hc
    iexact Hb
  iapply bigSep_pair
  isplitl [Hd]
  · iapply (Entails.of_eq (bigSep_congr fun c _ => BI.bigSep_fin_two (fun s : Fin 2 => (readerAt ES (c, s) 0 : sProp 𝕄)))) $$ Hd
  iexact Ha

/-- The launch step. -/
theorem init :
    iprop((bigSep Finset.univ fun c : Dev nD => iprop(unscopedBufs c (fun b => m ((c : Thread nD τ).loc b)) ∗ unscopedSems0 c
          ∗ owes (c : Thread nD τ) (owS c) ∅ ∗ Pipeline.launchCred owS c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owS c) ∅ ∗ Pipeline.launchCred owS c ∗ prngReg c (ρ c) ∗ G c)
      ⊢ (iprop(bund m c ∗ (semVal (barCell c) 0 ∗ G c)) : sProp 𝕄) := by
    rw [show unscopedBufs c (fun b => m ((c : Thread nD τ).loc b)) = StableHlo.held (c : Thread nD τ) bufs (V₀ m c) from bufs_held c (V₀ m c), sems_eq]
    unfold bund
    iintro ⟨Hh, Hus, HO, Hcr, Hp, HG⟩
    isplitr [Hus HG]
    · isplitl [Hh]; · iexact Hh
      isplitl [Hcr]; · iapply (creds c) $$ Hcr
      isplitl [HO]; · iexact HO
      iexists (ρ c); iexact Hp
    isplitl [Hus]; · iexact Hus
    iexact HG
  iintro ⟨H, #Hlev⟩
  ihave H := (show _ ⊢ (bigSep Finset.univ fun c : Dev nD => iprop(bund m c ∗ (semVal (barCell c) 0 ∗ G c)) : sProp 𝕄) from BI.bigSep_mono fun c _ => hcore c) $$ H
  ihave H := bigSep_unpair $$ H; icases H with ⟨HB, H⟩
  ihave H := bigSep_unpair $$ H; icases H with ⟨Hv, HG⟩
  ihave HG := (Entails.of_eq (G_all (F := F))) $$ HG
  ihave HG := (show (BI.own (EX x₀) : sProp 𝕄) ⊢ iprop(BI.own (ER (launchOf barCells scCells toks)) ∗ BI.own (ES (initSlots Finset.univ 8))) from own_pair_emb EX _ _) $$ HG
  icases HG with ⟨HR, HS⟩
  imod (Rounds.fund_launch ER (Rd m) disjoint_cells (fun g _ h => h) toks) $$ [Hv HR] with ⟨%κ, -, #Hinv, #Hr, Hat, Hopen, Htok⟩
  · isplitl [Hv]
    · iapply (show (bigSep Finset.univ fun c : Dev nD => (semVal (barCell c) 0 : sProp 𝕄)) ⊢ bigSep barCells (fun g => semVal g 0) from
        Entails.of_eq (BI.bigSep_map (s := Finset.univ) barEmb (Φ := fun g : GSem nD τ sig => (semVal g 0 : sProp 𝕄))).symm) $$ Hv
    iexact HR
  imod (Release.slots_init ES Finset.univ 8 (slotOf (F := F))) $$ HS with ⟨%ιs, -, #Hsl, Hrd, Hwr⟩
  imodintro
  iapply (bigSep_with_persistent (R := iprop(know m κ ιs ∗ bigSep barCells fun g => reached ER g 0)) (Φ := fun c => iprop(lin c ∗ bund m c)) fun c _ => T₀_of m κ ιs c)
  isplitr
  · isplitr
    · unfold know
      isplitr; · iexact Hinv
      isplitr; · iexact Hsl
      iexact Hlev
    iexact Hr
  iapply bigSep_pair
  isplitr [HB]
  · iapply (lin_all (F := F))
    isplitl [Hopen]; · iexact Hopen
    isplitl [Htok]; · iexact Htok
    isplitl [Hrd]; · iexact Hrd
    isplitl [Hwr]; · iexact Hwr
    iexact Hat
  iexact HB

theorem unscoped_eq : ∀ sm : SemLoc sig, sm.isScoped .tc = false → sm = .reg barS := by decide

set_option backward.isDefEq.respectTransparency.types false in
/-- The run: from any memory with all counters at zero the program ends on every device, the arguments are unchanged, the
    result holds what the region's data says, and every counter is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = (dat m c).arrAt 2 cfg0.N) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owS) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c (Proc.devRef .tc main_arg0) ∧ s.mem ((c : Thread nD τ).loc main_arg1) = V₂ m c (Proc.devRef .tc main_arg1)
      ∧ s.mem ((c : Thread nD τ).loc main_v2) = V₂ m c (Proc.devRef .tc main_v2)) ∧ s.sem (barCell c) = 0)
    (hfin := fun c s' => by
      dsimp only [Tₙ]; rw [bufs_eq]
      iintro ⟨⟨⟨Hx, Hy, -, Hz⟩, Hb0⟩, HSI⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        refine ⟨hx.trans ?_, hy.trans ?_, hz.trans (V₂_out m c)⟩
        · exact (V₂_of_ne m c (b := Proc.devRef .tc main_arg0) (StableHlo.devRef_ne_of_ne (by decide))).trans (V_main_arg0 m c)
        · exact (V₂_of_ne m c (b := Proc.devRef .tc main_arg1) (StableHlo.devRef_ne_of_ne (by decide))).trans (V_main_arg1 m c),
      sem_eq_zero hs fun c sm hsm => by
        obtain rfl := unscoped_eq sm hsm
        exact (h c).2⟩)

end Cert.KernelIdeal.Pf

end
-- ==== Proof.Frames.lean ====
/- The frames of the kernel as printed and of the kernel read over the reals: one run, at two readings of the floats. -/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384

noncomputable section

namespace Cert.Proof

open Idealize.ShloMosaic Idealize.ShloMosaic.TcCoe Idealize.SL.Sem

section
open Cert.KernelIdeal Cert.KernelIdeal.Gen

/-- At any reading of the floats the kernel ends on every device, with its arguments unchanged and every counter at zero. -/
theorem frame_any {F : FTy → Type} [FloatOps F] (m : (x : Loc nD τ sig) → Buf (Elt F) x) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (Cert.KernelIdeal.Pf.run_main m ρ)

end

/-- The two printed programs have the same bodies, -/
theorem bodies_eq : Cert.Kernel.defs₀ (F := Bits) = Cert.KernelIdeal.defs₀ (F := Bits) :=
  congrArg Defs.onTc (funext fun k => funext fun a => match k, a with
    | 0, (_, _) => rfl
    | ⟨_ + 1, h⟩, _ => absurd h (Nat.not_lt.2 (Nat.le_add_left _ _)))
/-- and so the same tables. -/
theorem tables_eq : Cert.Kernel.defs (F := Bits) = Cert.KernelIdeal.defs (F := Bits) :=
  congrArg (Pipeline.defs (Cert.KernelIdeal.pcfgs (F := Bits))) bodies_eq

/-- The kernel as printed, at its bits. -/
theorem frame_kernel : Cert.quiescent_Kernel := fun m ρ _ => by
  rw [tables_eq]
  exact frame_any (F := Bits) m ρ
/-- The kernel over the reals. -/
theorem frame_kernelIdeal : Cert.quiescent_KernelIdeal := fun m ρ _ => frame_any (F := Ideal) m ρ
/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
/- The value of the result: at exact arithmetic each device is left with its rows of the reference's product. -/
module

public import proofs.«01_k».proof.Defs
public import proofs.«01_k».proof.Proof.Launch
public import proofs.«01_k».proof.Proof.Gen.ReferenceIdeal.Run
public import Idealize.ShloMosaic.Lib.Pipeline.ValueKit
public import Idealize.ShloMosaic.Lib.Pointwise
public import Idealize.ShloMosaic.Lib.LayoutAt

@[expose] public section

set_option maxRecDepth 16384

noncomputable section

namespace Cert.KernelIdeal.Pf

open Idealize.ShloMosaic Idealize.ShloMosaic.TcCoe
open Idealize.ShloMosaic.Pipeline (Dat Cfg)
open Cert.KernelIdeal.Gen

variable {F : FTy → Type} [FloatOps F]
variable (m : (ℓ : Loc nD τ sig) → Buf (Elt F) ℓ) (c : Dev nD)

/-- The whole output: column `q` of it lies in chunk `q / 512`. -/
def outG : Buf (Elt F) ((c : Thread nD τ).loc main_v2) := fun i : S1x1024x8192.Idx =>
  outV m c ((i 2).val / 512) (ix3 (i 0) (i 1) ⟨(i 2).val % 512, Nat.mod_lt _ (by decide)⟩)

/-- After the run the output array is that: each chunk is written back at the point after the one it is computed at. -/
theorem arr_out : (dat m c).arrAt 2 cfg0.N = outG m c := by
  refine (dat m c).arrAt_eq_of_covers 2 _ (by decide +kernel) fun t hf y => ?_
  blk_simp
  have ht : t.val ≠ 0 := fun h => absurd hf (by rw [flush_2 t h]; decide)
  have hi : win0_2.index t = ![0, 0, t.val - 1] :=
    (by decide +kernel : ∀ t : Fin cfg0.N, t.val ≠ 0 → win0_2.index t = ![0, 0, t.val - 1]) t ht
  show outV m c (t.val - 1) y = outV m c _ _
  congr 1
  · blk_simp [hi]
    idx_bounds y
    omega
  · blk_ext [hi]

/-- The first argument when the pipeline starts: its last two axes are merged. -/
theorem V_main_v1 : V m c main_v1 = shapeCast _ (m ((c : Thread nD τ).loc main_arg0)) shapeCasts_S1x2048x32x128_S2048x4096 := by
  unfold V hostOps0; after_results <;> rfl

/-- Merging heads and lanes: position `k` of a row is lane `k % 128` of head `k / 128`. -/
theorem merge_at (A : Vec F S1x2048x32x128 .bf16) (r : Fin 2048) (k : Fin 4096) :
    shapeCast S2048x4096 A shapeCasts_S1x2048x32x128_S2048x4096 (ix2 r k)
      = A (ix4 0 r ⟨k.val / 128, by omega⟩ ⟨k.val % 128, Nat.mod_lt _ (by decide)⟩) := by
  pointwise []

/-- The first input's block is the whole first argument, its heads laid side by side. -/
theorem xB_at (r : Fin 2048) (k : Fin 4096) : xB m c (ix2 r k)
    = m ((c : Thread nD τ).loc main_arg0) (ix4 0 r ⟨k.val / 128, by omega⟩ ⟨k.val % 128, Nat.mod_lt _ (by decide)⟩) := by
  have hi : win0_0.index (pt 0) = ![0, 0] := by decide +kernel
  have he : (win0_0.blk (pt 0)).view.emb (ix2 r k) = (ix2 r k : S2048x4096.Idx) := by blk_ext [hi]
  unfold xB
  blk_simp [iblk]
  rw [he, V_main_v1]
  exact merge_at _ r k

/-- The second input's block `j` is column block `j` of the second argument. -/
theorem wB_at (j : ℕ) (hj : j < 16) (k : Fin 4096) (q : Fin 512) : wB m c j (ix2 k q)
    = m ((c : Thread nD τ).loc main_arg1) (ix2 k ⟨512 * j + q.val, by omega⟩) := by
  have hp : (pt j).val = j := by show min j 16 = j; omega
  have hi : win0_1.index (pt j) = ![0, j] :=
    ((by decide +kernel : ∀ t : Fin cfg0.N, t.val < 16 → win0_1.index t = ![0, t.val]) (pt j) (by omega)).trans (by rw [hp])
  unfold wB
  blk_simp [iblk]
  rw [V_main_arg1]
  congr 1
  blk_ext [hi]

section
variable (m : (ℓ : Loc nD τ sig) → Buf (Elt Ideal) ℓ) (c : Dev nD)

/-- One device's part of entry `(r, q)` of the product: the sum over its 4096 of the 8192 contracted positions. -/
def part (A : S1x2048x32x128.Idx → EReal) (B : S4096x8192.Idx → EReal) (r : Fin 2048) (q : Fin 8192) : EReal :=
  ∑ k : Fin 4096, A (ix4 0 r ⟨k.val / 128, by omega⟩ ⟨k.val % 128, Nat.mod_lt _ (by decide)⟩) * B (ix2 k q)
/-- Device `c`'s part, from the arrays it was given. -/
def partOf (r : Fin 2048) (q : Fin 8192) : EReal :=
  part (m ((c : Thread nD τ).loc main_arg0)) (m ((c : Thread nD τ).loc main_arg1)) r q

/-- Row `r` of a half of the rows, in the whole. -/
theorem rowsR_at (b : Fin 2) (r : Fin 1024) (k : Fin 4096) :
    (rowsR b).emb (ix2 r k) = (ix2 ⟨1024 * b.val + r.val, by omega⟩ k : S2048x4096.Idx) := by
  unfold rowsR
  blk_ext

/-- A chunk of the output is the device's own part plus its partner's, both for the rows the device keeps. -/
theorem outV_at (j : ℕ) (hj : j < 16) (a : Fin 1) (r : Fin 1024) (q : Fin 512) : outV m c j (ix3 a r q)
    = partOf m c ⟨1024 * (own c).val + r.val, by omega⟩ ⟨512 * j + q.val, by omega⟩
      + partOf m (pr c) ⟨1024 * (own c).val + r.val, by omega⟩ ⟨512 * j + q.val, by omega⟩ := by
  have ho : other (pr c) = own c := by revert c; decide
  pointwise [outV, mineV, sendV, k0_pay1, k0_pay2, k0_pay3, k0_pay4]
  simp only [ho, rowsR_at, xB_at, wB_at _ _ _ hj]
  rfl
end

end Cert.KernelIdeal.Pf

namespace Cert.Proof

open Idealize.ShloMosaic Idealize.ShloMosaic.TcCoe Idealize.SL.Sem
open Cert.KernelIdeal (S1x2048x32x128 S4096x8192 S1x1024x8192)
open Cert.KernelIdeal.Pf
open Cert.ReferenceIdeal (S1x2048x64x128 S8192x8192 S1x2048x8192)

/-- Summand `k` of entry `(r, q)` of the product of the whole arrays. -/
def summand (A : S1x2048x64x128.Idx → EReal) (B : S8192x8192.Idx → EReal) (r : Fin 2048) (q : Fin 8192) (k : Fin 8192) : EReal :=
  A (ix4 0 r ⟨k.val / 128, by omega⟩ ⟨k.val % 128, Nat.mod_lt _ (by decide)⟩) * B (ix2 k q)

/-- The reference's result, as its run spells it. -/
def refV (A : FVec Ideal S1x2048x64x128 .bf16) (B : FVec Ideal S8192x8192 .bf16) : FVec Ideal S1x2048x8192 .f32 :=
  extf .f32 (truncf .bf16 (Host.dotGeneral Cert.ReferenceIdeal.dot_S1x2048x8192_S8192x8192_S1x2048x8192_2_0_01_1_n_n none
    (extf .f32 (shapeCast _ A Cert.ReferenceIdeal.Gen.shapeCasts_S1x2048x64x128_S1x2048x8192) Cert.ReferenceIdeal.Gen.bitsLt_bf16_f32)
    (extf .f32 B Cert.ReferenceIdeal.Gen.bitsLt_bf16_f32)) Cert.ReferenceIdeal.Gen.bitsLt_bf16_f32) Cert.ReferenceIdeal.Gen.bitsLt_bf16_f32

/-- Read at an index, with exact arithmetic, it is the sum of the 8192 products. -/
theorem refV_at (A : FVec Ideal S1x2048x64x128 .bf16) (B : FVec Ideal S8192x8192 .bf16) (a : Fin 1) (r : Fin 2048) (q : Fin 8192) :
    refV A B (ix3 a r q) = ∑ k : Fin 8192, summand A B r q k := by
  pointwise [refV]
  rfl

/-- A device's part, from its blocks of the whole arrays: the summands of its half of the contracted positions. -/
theorem part_block (A : S1x2048x64x128.Idx → EReal) (B : S8192x8192.Idx → EReal) (c : Dev Cert.KernelIdeal.nD) (r : Fin 2048) (q : Fin 8192) :
    part (Layout.blockN ⟨4, ![1, 2048, 32, 128]⟩ ⟨4, ![1, 2048, 64, 128]⟩ (Layout.meshBlock [2, 2, 4] ![[], [], [1], []] c) A)
        (Layout.blockN ⟨2, ![4096, 8192]⟩ ⟨2, ![8192, 8192]⟩ (Layout.meshBlock [2, 2, 4] ![[1], []] c) B) r q
      = ∑ k : Fin 4096, summand A B r q ⟨4096 * (own c).val + k.val, by omega⟩ := by
  unfold part
  refine Finset.sum_congr rfl fun k _ => ?_
  have ho : (own c).val = (c.val / 4) % 2 := rfl
  show A _ * B _ = A _ * B _
  have hm : Layout.meshLin [2, 2, 4] c.val [1] = (c.val / 4) % 2 := by revert c; decide
  have hk : (4096 * (own c).val + k.val) / 128 = 32 * (own c).val + k.val / 128 ∧ (4096 * (own c).val + k.val) % 128 = k.val % 128 := by omega
  congr 2
  · have e0 : Layout.meshLin [2, 2, 4] c.val ((![[], [], [1], []] : Fin 4 → List ℕ) ⟨0, by decide⟩) = 0 := rfl
    have e1 : Layout.meshLin [2, 2, 4] c.val ((![[], [], [1], []] : Fin 4 → List ℕ) ⟨1, by decide⟩) = 0 := rfl
    have e2 : Layout.meshLin [2, 2, 4] c.val ((![[], [], [1], []] : Fin 4 → List ℕ) ⟨2, by decide⟩) = (c.val / 4) % 2 := hm
    have e3 : Layout.meshLin [2, 2, 4] c.val ((![[], [], [1], []] : Fin 4 → List ℕ) ⟨3, by decide⟩) = 0 := rfl
    shard_ext
  · have e0 : Layout.meshLin [2, 2, 4] c.val ((![[1], []] : Fin 2 → List ℕ) ⟨0, by decide⟩) = (c.val / 4) % 2 := hm
    have e1 : Layout.meshLin [2, 2, 4] c.val ((![[1], []] : Fin 2 → List ℕ) ⟨1, by decide⟩) = 0 := rfl
    shard_ext

/-- The two halves of the contracted positions, either one first. -/
theorem sum_halves (f : Fin 8192 → EReal) (b b' : Fin 2) (h : b'.val = 1 - b.val) :
    (∑ k : Fin 4096, f ⟨4096 * b.val + k.val, by omega⟩) + (∑ k : Fin 4096, f ⟨4096 * b'.val + k.val, by omega⟩) = ∑ k : Fin 8192, f k := by
  rw [Fin.sum_univ_two_halves 4096 4096 rfl f]
  obtain rfl | rfl : b = 0 ∨ b = 1 := by omega
  · obtain rfl : b' = 1 := Fin.ext h
    simp
  · obtain rfl : b' = 0 := Fin.ext h
    rw [add_comm]; simp

/-- From blocks of `A` and `B`, a device's output is its block of rows of the reference's result. -/
theorem out_eq (m : (ℓ : Loc Cert.KernelIdeal.nD Cert.KernelIdeal.τ Cert.KernelIdeal.sig) → Buf (Elt Ideal) ℓ)
    (A : FVec Ideal S1x2048x64x128 .bf16) (B : FVec Ideal S8192x8192 .bf16)
    (hin : ∀ c : Dev Cert.KernelIdeal.nD,
      m ((c.tc : Thread Cert.KernelIdeal.nD Cert.KernelIdeal.τ).loc Cert.KernelIdeal.main_arg0)
          = Layout.blockN ⟨4, ![1, 2048, 32, 128]⟩ ⟨4, ![1, 2048, 64, 128]⟩ (Layout.meshBlock [2, 2, 4] ![[], [], [1], []] c) A
        ∧ m ((c.tc : Thread Cert.KernelIdeal.nD Cert.KernelIdeal.τ).loc Cert.KernelIdeal.main_arg1)
          = Layout.blockN ⟨2, ![4096, 8192]⟩ ⟨2, ![8192, 8192]⟩ (Layout.meshBlock [2, 2, 4] ![[1], []] c) B)
    (c : Dev Cert.KernelIdeal.nD) :
    outG m c = Layout.blockN ⟨3, ![1, 1024, 8192]⟩ ⟨3, ![1, 2048, 8192]⟩ (Layout.meshBlock [2, 2, 4] ![[], [1], []] c) (refV A B) := by
  have hp : (own (pr c)).val = 1 - (own c).val := by revert c; decide
  have hP : ∀ (d : Dev Cert.KernelIdeal.nD) (r : Fin 2048) (q : Fin 8192),
      partOf m d r q = ∑ k : Fin 4096, summand A B r q ⟨4096 * (own d).val + k.val, by omega⟩ := fun d r q => by
    unfold partOf
    rw [(hin d).1, (hin d).2]
    exact part_block A B d r q
  have key : ∀ (a : Fin 1) (r : Fin 1024) (q : Fin 8192),
      outG m c (ix3 a r q) = refV A B (ix3 a ⟨1024 * (own c).val + r.val, by omega⟩ q) := fun a r q => by
    have hq : (⟨512 * (q.val / 512) + q.val % 512, by omega⟩ : Fin 8192) = q := Fin.ext (by show 512 * (q.val / 512) + q.val % 512 = q.val; omega)
    show outV m c (q.val / 512) (ix3 a r ⟨q.val % 512, _⟩) = _
    rw [outV_at m c _ (by omega), hP, hP, refV_at]
    simp only [hq]
    exact sum_halves _ _ _ hp
  refine funext fun i : S1x1024x8192.Idx => ?_
  refine (congrArg (outG m c) (eq_ix3 i)).trans ((key (i 0) (i 1) (i 2)).trans ?_)
  show refV A B _ = refV A B _
  have ho : (own c).val = (c.val / 4) % 2 := rfl
  have hm : Layout.meshLin [2, 2, 4] c.val [1] = (c.val / 4) % 2 := by clear * -; revert c; decide
  have e0 : Layout.meshLin [2, 2, 4] c.val ((![[], [1], []] : Fin 3 → List ℕ) ⟨0, by decide⟩) = 0 := rfl
  have e1 : Layout.meshLin [2, 2, 4] c.val ((![[], [1], []] : Fin 3 → List ℕ) ⟨1, by decide⟩) = (c.val / 4) % 2 := hm
  have e2 : Layout.meshLin [2, 2, 4] c.val ((![[], [1], []] : Fin 3 → List ℕ) ⟨2, by decide⟩) = 0 := rfl
  congr 1
  shard_ext

/-- The kernel leaves each device its rows of the reference's product. -/
theorem algebraic : Cert.algebraic_KernelIdeal_ReferenceIdeal (hKernelIdeal := Cert.KernelIdeal.Gen.facts) (hReferenceIdeal := Cert.ReferenceIdeal.Gen.facts) := by
  intro m g m' g' _ hin
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ?_) (run_main (F := Ideal) m g)
    obtain ⟨h0, h1, h2⟩ := h.1 c
    refine ⟨?_, h0, h1⟩
    rw [h2, arr_out]
    exact out_eq m _ _ hin c
  · exact (θ_run _ _ _).mono (fun r h => h 0) (Cert.ReferenceIdeal.Value.run (F := Ideal) m' g')

end Cert.Proof

end
-- ==== Proof.lean ====
/- The proof of the certificate's claims; each is proved in the module its name's comment gives. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames are Proof/Frames.lean's; the two kernel programs are one text, so nothing was rewritten between them;
    the value is Proof/Value.lean's. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
